-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v124)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v124) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v73) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)) (v2 : (c : Dev Cert.QkvIdeal.nD) → Buf (Elt Ideal) ((c.tc : Thread Cert.QkvIdeal.nD Cert.QkvIdeal.τ).loc Cert.QkvIdeal.main_v2_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_v2_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v21) = v0 c
          ∧ r.2.mem ((c.tc : Thread Cert.QkvRefIdeal.nD Cert.QkvRefIdeal.τ).loc Cert.QkvRefIdeal.main_v22) = v1 c
          ∧ r.2.mem ((c.tc : Thread Cert.QkvRefIdeal.nD Cert.QkvRefIdeal.τ).loc Cert.QkvRefIdeal.main_v25) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
-- ==== Pre_finite.lean ====
abbrev S8x8192x1024 : Shape := ⟨3, ![8, 8192, 1024]⟩
abbrev S64 : Shape := ⟨1, ![64]⟩
abbrev S128 : Shape := ⟨1, ![128]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x8192x1024 .f32) (main_arg1 : FVec F S8x8192x1024 .f32) (main_arg2 : FVec F S8x8192x1024 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S8x8192x1024 .f32 := Host.absf main_arg1
  let main_cst_0 : FVec F S_ .f32 := constant S_ .f32 0x7F800000#32
  let main_v5 : FVec F S8x8192x1024 .f32 := broadcastInDim S8x8192x1024 ![] bcast_S_S8x8192x1024 main_cst_0
  let main_v6 : IVec S8x8192x1024 1 := cmpf .olt main_v4 main_v5
  let main_c_1 : IVec S_ 1 := constantI S_ 1 1#1
  let main_v7 : IVec S_ 1 := (fun x v => Host.reduce IntOp.andi x v reducesTo_S8x8192x1024_S_d0_1_2 h_S_) main_v6 main_c_1
  let main_v8 : IVec S_ 1 := andi main_v3 main_v7
  let main_v9 : FVec F S8x8192x1024 .f32 := Host.absf main_arg2
  let main_cst_2 : FVec F S_ .f32 := constant S_ .f32 0x7F800000#32
  let main_v10 : FVec F S8x8192x1024 .f32 := broadcastInDim S8x8192x1024 ![] bcast_S_S8x8192x1024 main_cst_2
  let main_v11 : IVec S8x8192x1024 1 := cmpf .olt main_v9 main_v10
  let main_c_3 : IVec S_ 1 := constantI S_ 1 1#1
  let main_v12 : IVec S_ 1 := (fun x v => Host.reduce IntOp.andi x v reducesTo_S8x8192x1024_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Attn.lean ====
abbrev S8x8192x1024 : Shape := ⟨3, ![8, 8192, 1024]⟩
abbrev S64 : Shape := ⟨1, ![64]⟩
abbrev S128 : Shape := ⟨1, ![128]⟩
abbrev S1x64 : Shape := ⟨2, ![1, 64]⟩
abbrev S4x64 : Shape := ⟨2, ![4, 64]⟩
abbrev S_ : Shape := ⟨0, ![]⟩
abbrev S8x16x512x1024 : Shape := ⟨4, ![8, 16, 512, 1024]⟩
abbrev S8x16x1024x512 : Shape := ⟨4, ![8, 16, 1024, 512]⟩
abbrev S512 : Shape := ⟨1, ![512]⟩
abbrev S8 : Shape := ⟨1, ![8]⟩
abbrev S1x128x1 : Shape := ⟨3, ![1, 128, 1]⟩
abbrev S1x1x512 : Shape := ⟨3, ![1, 1, 512]⟩
abbrev S1x128x512 : Shape := ⟨3, ![1, 128, 512]⟩
abbrev S8x1x1 : Shape := ⟨3, ![8, 1, 1]⟩
abbrev S8x128x1 : Shape := ⟨3, ![8, 128, 1]⟩
abbrev S8x128x512 : Shape := ⟨3, ![8, 128, 512]⟩
abbrev S1x1x128 : Shape := ⟨3, ![1, 1, 128]⟩
abbrev S1x512x1 : Shape := ⟨3, ![1, 512, 1]⟩
abbrev S1x512x128 : Shape := ⟨3, ![1, 512, 128]⟩
abbrev S8x1x128 : Shape := ⟨3, ![8, 1, 128]⟩
abbrev S8x512x128 : Shape := ⟨3, ![8, 512, 128]⟩
abbrev S8x1x512x128 : Shape := ⟨4, ![8, 1, 512, 128]⟩
abbrev S8x2x512x128 : Shape := ⟨4, ![8, 2, 512, 128]⟩
abbrev S512x1 : Shape := ⟨2, ![512, 1]⟩
abbrev S1x512 : Shape := ⟨2, ![1, 512]⟩
abbrev S512x512 : Shape := ⟨2, ![512, 512]⟩
abbrev S128x1 : Shape := ⟨2, ![128, 1]⟩
abbrev S1x1x128x512 : Shape := ⟨4, ![1, 1, 128, 512]⟩
abbrev S1x8192x128 : Shape := ⟨3, ![1, 8192, 128]⟩
abbrev S1x16x128x512 : Shape := ⟨4, ![1, 16, 128, 512]⟩
abbrev S1x2x512x128 : Shape := ⟨4, ![1, 2, 512, 128]⟩
abbrev S2x256x512 : Shape := ⟨3, ![2, 256, 512]⟩
abbrev S2x2x512x512 : Shape := ⟨4, ![2, 2, 512, 512]⟩
abbrev S2x128x512 : Shape := ⟨3, ![2, 128, 512]⟩
abbrev S1 : Shape := ⟨1, ![1]⟩
abbrev S128x512 : Shape := ⟨2, ![128, 512]⟩
abbrev S64x512 : Shape := ⟨2, ![64, 512]⟩
abbrev S256x512 : Shape := ⟨2, ![256, 512]⟩
abbrev S1x256x512 : Shape := ⟨3, ![1, 256, 512]⟩
abbrev S512x128 : Shape := ⟨2, ![512, 128]⟩
abbrev S1x1x512x512 : Shape := ⟨4, ![1, 1, 512, 512]⟩
abbrev S1x1x512x128 : Shape := ⟨4, ![1, 1, 512, 128]⟩
abbrev S512x256 : Shape := ⟨2, ![512, 256]⟩
abbrev S1x1 : Shape := ⟨2, ![1, 1]⟩

abbrev nBuf : Space → Nat
  | .hbm => 191
  | .vmem => 18
  | .smem => 1
  | _ => 0

abbrev hbmTy0_0 (i : Nat) : BufTy := match i % 128 with
  | 0 => ⟨S8x8192x1024, .f32⟩
  | 1 => ⟨S8x8192x1024, .f32⟩
  | 2 => ⟨S8x8192x1024, .f32⟩
  | 3 => ⟨S64, .f32⟩
  | 4 => ⟨S64, .f32⟩
  | 5 => ⟨S64, .f32⟩
  | 6 => ⟨S64, .f32⟩
  | 7 => ⟨S128, .f32⟩
  | 8 => ⟨S1x64, .f32⟩
  | 9 => ⟨S1x64, .f32⟩
  | 10 => ⟨S1x64, .f32⟩
  | 11 => ⟨S1x64, .f32⟩
  | 12 => ⟨S4x64, .f32⟩
  | 13 => ⟨S_, .f32⟩
  | 14 => ⟨S_, .f32⟩
  | 15 => ⟨S_, .f32⟩
  | 16 => ⟨S_, .f32⟩
  | 17 => ⟨S8x8192x1024, .f32⟩
  | 18 => ⟨S8x8192x1024, .f32⟩
  | 19 => ⟨S8x16x512x1024, .f32⟩
  | 20 => ⟨S8x16x1024x512, .f32⟩
  | 21 => ⟨S8x16x1024x512, .bf16⟩
  | 22 => ⟨S8x8192x1024, .bf16⟩
  | 23 => ⟨S8x16x512x1024, .f32⟩
  | 24 => ⟨S8x16x1024x512, .f32⟩
  | 25 => ⟨S8x16x1024x512, .bf16⟩
  | 26 => ⟨S512, .i32⟩
  | 27 => ⟨S_, .i32⟩
  | 28 => ⟨S512, .i32⟩
  | 29 => ⟨S512, .i32⟩
  | 30 => ⟨S512, .f32⟩
  | 31 => ⟨S512, .f32⟩
  | 32 => ⟨S512, .f32⟩
  | 33 => ⟨S8, .i32⟩
  | 34 => ⟨S_, .i32⟩
  | 35 => ⟨S8, .i32⟩
  | 36 => ⟨S8, .i32⟩
  | 37 => ⟨S8, .f32⟩
  | 38 => ⟨S_, .f32⟩
  | 39 => ⟨S8, .f32⟩
  | 40 => ⟨S8, .f32⟩
  | 41 => ⟨S_, .f32⟩
  | 42 => ⟨S_, .f32⟩
  | 43 => ⟨S_, .f32⟩
  | 44 => ⟨S_, .f32⟩
  | 45 => ⟨S8, .f32⟩
  | 46 => ⟨S8, .f32⟩
  | 47 => ⟨S8, .bf16⟩
  | 48 => ⟨S8, .f32⟩
  | 49 => ⟨S8, .f32⟩
  | 50 => ⟨S8, .bf16⟩
  | 51 => ⟨S8, .f32⟩
  | 52 => ⟨S_, .f32⟩
  | 53 => ⟨S_, .f32⟩
  | 54 => ⟨S_, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S8, .f32⟩
  | 62 => ⟨S_, .f32⟩
  | 63 => ⟨S8, .f32⟩
  | 64 => ⟨S8, .f32⟩
  | 65 => ⟨S8, .f32⟩
  | 66 => ⟨S_, .f32⟩
  | 67 => ⟨S8, .f32⟩
  | 68 => ⟨S8, .f32⟩
  | 69 => ⟨S8, .bf16⟩
  | 70 => ⟨S8, .f32⟩
  | 71 => ⟨S128, .i32⟩
  | 72 => ⟨S1x128x1, .i32⟩
  | 73 => ⟨S_, .i32⟩
  | 74 => ⟨S1x128x1, .i32⟩
  | 75 => ⟨S1x128x1, .i1⟩
  | 76 => ⟨S1x1x512, .f32⟩
  | 77 => ⟨S1x1x512, .f32⟩
  | 78 => ⟨S1x128x512, .i1⟩
  | 79 => ⟨S1x128x512, .f32⟩
  | 80 => ⟨S1x128x512, .f32⟩
  | 81 => ⟨S1x128x512, .f32⟩
  | 82 => ⟨S_, .f32⟩
  | 83 => ⟨S1x128x512, .f32⟩
  | 84 => ⟨S1x128x512, .f32⟩
  | 85 => ⟨S_, .i32⟩
  | 86 => ⟨S1x128x1, .i32⟩
  | 87 => ⟨S1x128x1, .i1⟩
  | 88 => ⟨S_, .i32⟩
  | 89 => ⟨S1x128x1, .i32⟩
  | 90 => ⟨S1x128x1, .i1⟩
  | 91 => ⟨S1x128x1, .i1⟩
  | 92 => ⟨S8x1x1, .f32⟩
  | 93 => ⟨S8x1x1, .f32⟩
  | 94 => ⟨S8x128x1, .i1⟩
  | 95 => ⟨S8x128x1, .f32⟩
  | 96 => ⟨S8x128x1, .f32⟩
  | 97 => ⟨S8x128x1, .f32⟩
  | 98 => ⟨S_, .i32⟩
  | 99 => ⟨S1x128x1, .i32⟩
  | 100 => ⟨S1x128x1, .i1⟩
  | 101 => ⟨S_, .i32⟩
  | 102 => ⟨S1x128x1, .i32⟩
  | 103 => ⟨S1x128x1, .i1⟩
  | 104 => ⟨S1x128x1, .i1⟩
  | 105 => ⟨S8x1x1, .f32⟩
  | 106 => ⟨S8x128x1, .i1⟩
  | 107 => ⟨S8x128x1, .f32⟩
  | 108 => ⟨S8x128x1, .f32⟩
  | 109 => ⟨S_, .i32⟩
  | 110 => ⟨S1x128x1, .i32⟩
  | 111 => ⟨S1x128x1, .i1⟩
  | 112 => ⟨S_, .i32⟩
  | 113 => ⟨S1x128x1, .i32⟩
  | 114 => ⟨S1x128x1, .i1⟩
  | 115 => ⟨S_, .f32⟩
  | 116 => ⟨S_, .f32⟩
  | 117 => ⟨S8x128x1, .i1⟩
  | 118 => ⟨S8x128x1, .f32⟩
  | 119 => ⟨S8x128x1, .f32⟩
  | 120 => ⟨S8x128x512, .i1⟩
  | 121 => ⟨S8x128x512, .f32⟩
  | 122 => ⟨S8x128x512, .f32⟩
  | 123 => ⟨S8x128x512, .f32⟩
  | 124 => ⟨S1x1x128, .i32⟩
  | 125 => ⟨S_, .i32⟩
  | 126 => ⟨S1x1x128, .i32⟩
  | 127 => ⟨S1x1x128, .i1⟩
  | _ => ⟨S8x8192x1024, .f32⟩

abbrev hbmTy0_1 (i : Nat) : BufTy := match i % 128 with
  | 0 => ⟨S1x512x1, .f32⟩
  | 1 => ⟨S1x512x1, .f32⟩
  | 2 => ⟨S1x512x128, .i1⟩
  | 3 => ⟨S1x512x128, .f32⟩
  | 4 => ⟨S1x512x128, .f32⟩
  | 5 => ⟨S1x512x128, .f32⟩
  | 6 => ⟨S_, .f32⟩
  | 7 => ⟨S1x512x128, .f32⟩
  | 8 => ⟨S1x512x128, .f32⟩
  | 9 => ⟨S_, .i32⟩
  | 10 => ⟨S1x1x128, .i32⟩
  | 11 => ⟨S1x1x128, .i1⟩
  | 12 => ⟨S_, .i32⟩
  | 13 => ⟨S1x1x128, .i32⟩
  | 14 => ⟨S1x1x128, .i1⟩
  | 15 => ⟨S1x1x128, .i1⟩
  | 16 => ⟨S8x1x1, .f32⟩
  | 17 => ⟨S8x1x1, .f32⟩
  | 18 => ⟨S8x1x128, .i1⟩
  | 19 => ⟨S8x1x128, .f32⟩
  | 20 => ⟨S8x1x128, .f32⟩
  | 21 => ⟨S8x1x128, .f32⟩
  | 22 => ⟨S_, .i32⟩
  | 23 => ⟨S1x1x128, .i32⟩
  | 24 => ⟨S1x1x128, .i1⟩
  | 25 => ⟨S_, .i32⟩
  | 26 => ⟨S1x1x128, .i32⟩
  | 27 => ⟨S1x1x128, .i1⟩
  | 28 => ⟨S1x1x128, .i1⟩
  | 29 => ⟨S8x1x1, .f32⟩
  | 30 => ⟨S8x1x128, .i1⟩
  | 31 => ⟨S8x1x128, .f32⟩
  | 32 => ⟨S8x1x128, .f32⟩
  | 33 => ⟨S_, .i32⟩
  | 34 => ⟨S1x1x128, .i32⟩
  | 35 => ⟨S1x1x128, .i1⟩
  | 36 => ⟨S_, .i32⟩
  | 37 => ⟨S1x1x128, .i32⟩
  | 38 => ⟨S1x1x128, .i1⟩
  | 39 => ⟨S_, .f32⟩
  | 40 => ⟨S_, .f32⟩
  | 41 => ⟨S1x512x128, .i1⟩
  | 42 => ⟨S1x512x128, .f32⟩
  | 43 => ⟨S1x512x128, .f32⟩
  | 44 => ⟨S8x512x128, .i1⟩
  | 45 => ⟨S8x512x128, .f32⟩
  | 46 => ⟨S8x512x128, .f32⟩
  | 47 => ⟨S8x512x128, .f32⟩
  | 48 => ⟨S8x512x128, .f32⟩
  | 49 => ⟨S8x1x512x128, .f32⟩
  | 50 => ⟨S8x1x512x128, .f32⟩
  | 51 => ⟨S8x2x512x128, .f32⟩
  | 52 => ⟨S512x1, .i32⟩
  | 53 => ⟨S1x512, .i32⟩
  | 54 => ⟨S512x512, .i32⟩
  | 55 => ⟨S512x512, .i32⟩
  | 56 => ⟨S512x512, .i32⟩
  | 57 => ⟨S512x512, .i32⟩
  | 58 => ⟨S512x512, .f32⟩
  | 59 => ⟨S8x128x512, .bf16⟩
  | 60 => ⟨S8x2x512x128, .bf16⟩
  | 61 => ⟨S128x1, .f32⟩
  | 62 => ⟨S8x8192x1024, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | .local _ .vmem, ⟨0, _⟩ => ⟨S1x1x128x512, .bf16⟩
  | .local _ .vmem, ⟨1, _⟩ => ⟨S1x1x128x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x16x128x512, .bf16⟩
  | .local _ .vmem, ⟨5, _⟩ => ⟨S1x16x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x2x512x128, .bf16⟩
  | .local _ .vmem, ⟨9, _⟩ => ⟨S1x2x512x128, .bf16⟩
  | .local _ .vmem, ⟨10, _⟩ => ⟨S512x512, .f32⟩
  | .local _ .vmem, ⟨11, _⟩ => ⟨S4x64, .f32⟩
  | .local _ .vmem, ⟨12, _⟩ => ⟨S128x1, .f32⟩
  | .local _ .vmem, ⟨13, _⟩ => ⟨S1x512x128, .bf16⟩
  | .local _ .vmem, ⟨14, _⟩ => ⟨S1x512x128, .bf16⟩
  | .local _ .vmem, ⟨15, _⟩ => ⟨S2x256x512, .bf16⟩
  | .local _ .vmem, ⟨16, _⟩ => ⟨S2x2x512x512, .f32⟩
  | .local _ .vmem, ⟨17, _⟩ => ⟨S2x128x512, .f32⟩
  | .local _ .smem, ⟨0, _⟩ => ⟨S8, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v67 : Ref sig .tc := ⟨.hbm, 97, rfl⟩
abbrev main_c_14 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call2_v0 : Ref sig .tc := ⟨.hbm, 106, rfl⟩
abbrev main_call2_v1 : Ref sig .tc := ⟨.hbm, 107, rfl⟩
abbrev main_v74 : Ref sig .tc := ⟨.hbm, 108, rfl⟩
abbrev main_c_16 : Ref sig .tc := ⟨.hbm, 109, rfl⟩
abbrev main_v75 : Ref sig .tc := ⟨.hbm, 110, rfl⟩
abbrev main_v76 : Ref sig .tc := ⟨.hbm, 111, rfl⟩
abbrev main_c_17 : Ref sig .tc := ⟨.hbm, 112, rfl⟩
abbrev main_v77 : Ref sig .tc := ⟨.hbm, 113, rfl⟩
abbrev main_v78 : Ref sig .tc := ⟨.hbm, 114, rfl⟩
abbrev main_cst_18 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_v79 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_v80 : Ref sig .tc := ⟨.hbm, 123, rfl⟩
abbrev main_v81 : Ref sig .tc := ⟨.hbm, 124, rfl⟩
abbrev main_c_19 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_v86 : Ref sig .tc := ⟨.hbm, 133, rfl⟩
abbrev main_cst_20 : Ref sig .tc := ⟨.hbm, 134, rfl⟩
abbrev main_v87 : Ref sig .tc := ⟨.hbm, 135, rfl⟩
abbrev main_v88 : Ref sig .tc := ⟨.hbm, 136, rfl⟩
abbrev main_c_21 : Ref sig .tc := ⟨.hbm, 137, rfl⟩
abbrev main_v89 : Ref sig .tc := ⟨.hbm, 138, rfl⟩
abbrev main_v90 : Ref sig .tc := ⟨.hbm, 139, rfl⟩
abbrev main_c_22 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_call6_v0 : Ref sig .tc := ⟨.hbm, 146, rfl⟩
abbrev main_call6_v1 : Ref sig .tc := ⟨.hbm, 147, rfl⟩
abbrev main_call6_v2 : Ref sig .tc := ⟨.hbm, 148, rfl⟩
abbrev main_v96 : Ref sig .tc := ⟨.hbm, 149, rfl⟩
abbrev main_c_23 : Ref sig .tc := ⟨.hbm, 150, rfl⟩
abbrev main_v97 : Ref sig .tc := ⟨.hbm, 151, rfl⟩
abbrev main_v98 : Ref sig .tc := ⟨.hbm, 152, rfl⟩
abbrev main_c_24 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_call7_v0 : Ref sig .tc := ⟨.hbm, 158, rfl⟩
abbrev main_call7_v1 : Ref sig .tc := ⟨.hbm, 159, rfl⟩
abbrev main_v103 : Ref sig .tc := ⟨.hbm, 160, rfl⟩
abbrev main_c_25 : Ref sig .tc := ⟨.hbm, 161, rfl⟩
abbrev main_v104 : Ref sig .tc := ⟨.hbm, 162, rfl⟩
abbrev main_v105 : Ref sig .tc := ⟨.hbm, 163, rfl⟩
abbrev main_c_26 : Ref sig .tc := ⟨.hbm, 164, rfl⟩
abbrev main_v106 : Ref sig .tc := ⟨.hbm, 165, rfl⟩
abbrev main_v107 : Ref sig .tc := ⟨.hbm, 166, rfl⟩
abbrev main_cst_27 : Ref sig .tc := ⟨.hbm, 167, rfl⟩
abbrev main_call8_v0 : Ref sig .tc := ⟨.hbm, 168, rfl⟩
abbrev main_call8_v1 : Ref sig .tc := ⟨.hbm, 169, rfl⟩
abbrev main_call8_v2 : Ref sig .tc := ⟨.hbm, 170, rfl⟩
abbrev main_v108 : Ref sig .tc := ⟨.hbm, 171, rfl⟩
abbrev main_call9_v0 : Ref sig .tc := ⟨.hbm, 172, rfl⟩
abbrev main_call9_v1 : Ref sig .tc := ⟨.hbm, 173, rfl⟩
abbrev main_call9_v2 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![8, 8, 16], ![false, false, false]⟩

def k0_off1 (i : grid0.Coords) : Fin 1 → Nat :=
  let arg1 : BitVec 32 := BitVec.ofNat 32 (i 1).val
  let v0 : Index := Scalar.indexCast arg1
  ![v0.toNat]
def k0_mult1 (i : grid0.Coords) : BitVec 32 :=
  let arg2 : BitVec 32 := BitVec.ofNat 32 (i 2).val
  let c512_i32 : BitVec 32 := 512#32
  let v25 : BitVec 32 := Scalar.muli arg2 c512_i32
  v25
def k0_off2 (i : grid0.Coords) : Fin 3 → Nat :=
  let c0_20 : Index := 0#32
  let arg2 : BitVec 32 := BitVec.ofNat 32 (i 2).val
  let c512_i32 : BitVec 32 := 512#32
  let v25 : BitVec 32 := Scalar.muli arg2 c512_i32
  let v26 : BitVec 32 := v25
  let v27 : Index := Scalar.indexCast v26
  let c0_21 : Index := 0#32
  ![0, v27.toNat, 0]
def k0_mult2 (i : grid0.Coords) : BitVec 32 :=
  let c0_i32_44 : BitVec 32 := 0#32
  let arg2 : BitVec 32 := BitVec.ofNat 32 (i 2).val
  let c0_i32 : BitVec 32 := 0#32
  let v53 : BitVec 1 := Scalar.cmpi .sle arg2 c0_i32
  let c1_i32 : BitVec 32 := 1#32
  let c0_i32_43 : BitVec 32 := 0#32
  let v54 : BitVec 32 := Scalar.select v53 c1_i32 c0_i32_43
  let v55 : BitVec 32 := Scalar.addi c0_i32_44 v54
  let c512_i32_45 : BitVec 32 := 512#32
  let v56 : BitVec 32 := Scalar.muli v55 c512_i32_45
  v56
def k0_off3 (i : grid0.Coords) : Fin 3 → Nat :=
  let c0_46 : Index := 0#32
  let c0_i32_44 : BitVec 32 := 0#32
  let arg2 : BitVec 32 := BitVec.ofNat 32 (i 2).val
  let c0_i32 : BitVec 32 := 0#32
  let v53 : BitVec 1 := Scalar.cmpi .sle arg2 c0_i32
  let c1_i32 : BitVec 32 := 1#32
  let c0_i32_43 : BitVec 32 := 0#32
  let v54 : BitVec 32 := Scalar.select v53 c1_i32 c0_i32_43
  let v55 : BitVec 32 := Scalar.addi c0_i32_44 v54
  let c512_i32_45 : BitVec 32 := 512#32
  let v56 : BitVec 32 := Scalar.muli v55 c512_i32_45
  let v57 : BitVec 32 := v56
  let v58 : Index := Scalar.indexCast v57
  let c0_47 : Index := 0#32
  ![0, v58.toNat, 0]
def k0_off4 (i : grid0.Coords) : Fin 4 → Nat :=
  let c0_50 : Index := 0#32
  let c0_i32_44 : BitVec 32 := 0#32
  let arg2 : BitVec 32 := BitVec.ofNat 32 (i 2).val
  let c0_i32 : BitVec 32 := 0#32
  let v53 : BitVec 1 := Scalar.cmpi .sle arg2 c0_i32
  let c1_i32 : BitVec 32 := 1#32
  let c0_i32_43 : BitVec 32 := 0#32
  let v54 : BitVec 32 := Scalar.select v53 c1_i32 c0_i32_43
  let v55 : BitVec 32 := Scalar.addi c0_i32_44 v54
  let v61 : BitVec 1 := Scalar.cmpi .slt v55 arg2
  let c1_i32_48 : BitVec 32 := 1#32
  let c0_i32_49 : BitVec 32 := 0#32
  let v62 : BitVec 32 := Scalar.select v61 c1_i32_48 c0_i32_49
  let v63 : Index := Scalar.indexCast v62
  let c0_51 : Index := 0#32
  let c0_52 : Index := 0#32
  ![0, v63.toNat, 0, 0]
def k0_off5 (i : grid0.Coords) : Fin 4 → Nat :=
  let c0_72 : Index := 0#32
  let arg2 : BitVec 32 := BitVec.ofNat 32 (i 2).val
  let v88 : Index := Scalar.indexCast arg2
  let c0_73 : Index := 0#32
  let c0_74 : Index := 0#32
  ![0, v88.toNat, 0, 0]
@[reducible] def k0_t1_loop : Scf.Loop 32 :=
  let c0_i32_99 : BitVec 32 := 0#32
  let c7_i32 : BitVec 32 := 7#32
  let v143 : BitVec 32 := Scalar.addi c0_i32_99 c7_i32
  let c1_i32_100 : BitVec 32 := 1#32
  ⟨c0_i32_99, v143, c1_i32_100⟩
def k0_mult3 (i : grid0.Coords) (k0_t1 : Fin k0_t1_loop.trips) : BitVec 32 :=
  let c1_i32_150 : BitVec 32 := 1#32
  let c2_i32 : BitVec 32 := 2#32
  let c0_i32_99 : BitVec 32 := 0#32
  let c1_i32_100 : BitVec 32 := 1#32
  let arg16 : BitVec 32 := Scf.iv c0_i32_99 c1_i32_100 k0_t1
  let v254 : BitVec 32 := Scalar.muli c2_i32 arg16
  let v255 : BitVec 32 := Scalar.addi c1_i32_150 v254
  let arg2 : BitVec 32 := BitVec.ofNat 32 (i 2).val
  let v256 : BitVec 1 := Scalar.cmpi .sge v255 arg2
  let c1_i32_151 : BitVec 32 := 1#32
  let c0_i32_152 : BitVec 32 := 0#32
  let v257 : BitVec 32 := Scalar.select v256 c1_i32_151 c0_i32_152
  let v258 : BitVec 32 := Scalar.addi v255 v257
  let c512_i32_153 : BitVec 32 := 512#32
  let v259 : BitVec 32 := Scalar.muli v258 c512_i32_153
  v259
def k0_off6 (i : grid0.Coords) (k0_t1 : Fin k0_t1_loop.trips) : Fin 3 → Nat :=
  let c0_154 : Index := 0#32
  let c1_i32_150 : BitVec 32 := 1#32
  let c2_i32 : BitVec 32 := 2#32
  let c0_i32_99 : BitVec 32 := 0#32
  let c1_i32_100 : BitVec 32 := 1#32
  let arg16 : BitVec 32 := Scf.iv c0_i32_99 c1_i32_100 k0_t1
  let v254 : BitVec 32 := Scalar.muli c2_i32 arg16
  let v255 : BitVec 32 := Scalar.addi c1_i32_150 v254
  let arg2 : BitVec 32 := BitVec.ofNat 32 (i 2).val
  let v256 : BitVec 1 := Scalar.cmpi .sge v255 arg2
  let c1_i32_151 : BitVec 32 := 1#32
  let c0_i32_152 : BitVec 32 := 0#32
  let v257 : BitVec 32 := Scalar.select v256 c1_i32_151 c0_i32_152
  let v258 : BitVec 32 := Scalar.addi v255 v257
  let c512_i32_153 : BitVec 32 := 512#32
  let v259 : BitVec 32 := Scalar.muli v258 c512_i32_153
  let v260 : BitVec 32 := v259
  let v261 : Index := Scalar.indexCast v260
  let c0_155 : Index := 0#32
  ![0, v261.toNat, 0]
def k0_off7 (i : grid0.Coords) (k0_t1 : Fin k0_t1_loop.trips) : Fin 4 → Nat :=
  let c0_158 : Index := 0#32
  let c1_i32_150 : BitVec 32 := 1#32
  let c2_i32 : BitVec 32 := 2#32
  let c0_i32_99 : BitVec 32 := 0#32
  let c1_i32_100 : BitVec 32 := 1#32
  let arg16 : BitVec 32 := Scf.iv c0_i32_99 c1_i32_100 k0_t1
  let v254 : BitVec 32 := Scalar.muli c2_i32 arg16
  let v255 : BitVec 32 := Scalar.addi c1_i32_150 v254
  let arg2 : BitVec 32 := BitVec.ofNat 32 (i 2).val
  let v256 : BitVec 1 := Scalar.cmpi .sge v255 arg2
  let c1_i32_151 : BitVec 32 := 1#32
  let c0_i32_152 : BitVec 32 := 0#32
  let v257 : BitVec 32 := Scalar.select v256 c1_i32_151 c0_i32_152
  let v258 : BitVec 32 := Scalar.addi v255 v257
  let v264 : BitVec 1 := Scalar.cmpi .slt v258 arg2
  let c1_i32_156 : BitVec 32 := 1#32
  let c0_i32_157 : BitVec 32 := 0#32
  let v265 : BitVec 32 := Scalar.select v264 c1_i32_156 c0_i32_157
  let v266 : Index := Scalar.indexCast v265
  let c0_159 : Index := 0#32
  let c0_160 : Index := 0#32
  ![0, v266.toNat, 0, 0]
def k0_off8 (arg23 : BitVec 32) : Fin 4 → Nat :=
  let c0_180 : Index := 0#32
  let v291 : Index := Scalar.indexCast arg23
  let c0_181 : Index := 0#32
  let c0_182 : Index := 0#32
  ![0, v291.toNat, 0, 0]

def k0_chk1 (arg23 : BitVec 32) : Prop :=
  (∀ a, (k0_off8 arg23) a + S1x1x128x512.size a ≤ S1x16x128x512.size a)
theorem k0_off8_inb : ∀ (arg23 : BitVec 32) (k0_hw1 : k0_chk1 arg23), ∀ a, (k0_off8 arg23) a + S1x1x128x512.size a ≤ S1x16x128x512.size a := fun arg23 k0_hw1 => k0_hw1

def k0_mult4 (i : grid0.Coords) (k0_t1 : Fin k0_t1_loop.trips) : BitVec 32 :=
  let c2_i32_208 : BitVec 32 := 2#32
  let c2_i32_207 : BitVec 32 := 2#32
  let c0_i32_99 : BitVec 32 := 0#32
  let c1_i32_100 : BitVec 32 := 1#32
  let arg16 : BitVec 32 := Scf.iv c0_i32_99 c1_i32_100 k0_t1
  let v346 : BitVec 32 := Scalar.muli c2_i32_207 arg16
  let v347 : BitVec 32 := Scalar.addi c2_i32_208 v346
  let arg2 : BitVec 32 := BitVec.ofNat 32 (i 2).val
  let v348 : BitVec 1 := Scalar.cmpi .sge v347 arg2
  let c1_i32_209 : BitVec 32 := 1#32
  let c0_i32_210 : BitVec 32 := 0#32
  let v349 : BitVec 32 := Scalar.select v348 c1_i32_209 c0_i32_210
  let v350 : BitVec 32 := Scalar.addi v347 v349
  let c512_i32_211 : BitVec 32 := 512#32
  let v351 : BitVec 32 := Scalar.muli v350 c512_i32_211
  v351
def k0_off9 (i : grid0.Coords) (k0_t1 : Fin k0_t1_loop.trips) : Fin 3 → Nat :=
  let c0_212 : Index := 0#32
  let c2_i32_208 : BitVec 32 := 2#32
  let c2_i32_207 : BitVec 32 := 2#32
  let c0_i32_99 : BitVec 32 := 0#32
  let c1_i32_100 : BitVec 32 := 1#32
  let arg16 : BitVec 32 := Scf.iv c0_i32_99 c1_i32_100 k0_t1
  let v346 : BitVec 32 := Scalar.muli c2_i32_207 arg16
  let v347 : BitVec 32 := Scalar.addi c2_i32_208 v346
  let arg2 : BitVec 32 := BitVec.ofNat 32 (i 2).val
  let v348 : BitVec 1 := Scalar.cmpi .sge v347 arg2
  let c1_i32_209 : BitVec 32 := 1#32
  let c0_i32_210 : BitVec 32 := 0#32
  let v349 : BitVec 32 := Scalar.select v348 c1_i32_209 c0_i32_210
  let v350 : BitVec 32 := Scalar.addi v347 v349
  let c512_i32_211 : BitVec 32 := 512#32
  let v351 : BitVec 32 := Scalar.muli v350 c512_i32_211
  let v352 : BitVec 32 := v351
  let v353 : Index := Scalar.indexCast v352
  let c0_213 : Index := 0#32
  ![0, v353.toNat, 0]
def k0_off10 (i : grid0.Coords) (k0_t1 : Fin k0_t1_loop.trips) : Fin 4 → Nat :=
  let c0_216 : Index := 0#32
  let c2_i32_208 : BitVec 32 := 2#32
  let c2_i32_207 : BitVec 32 := 2#32
  let c0_i32_99 : BitVec 32 := 0#32
  let c1_i32_100 : BitVec 32 := 1#32
  let arg16 : BitVec 32 := Scf.iv c0_i32_99 c1_i32_100 k0_t1
  let v346 : BitVec 32 := Scalar.muli c2_i32_207 arg16
  let v347 : BitVec 32 := Scalar.addi c2_i32_208 v346
  let arg2 : BitVec 32 := BitVec.ofNat 32 (i 2).val
  let v348 : BitVec 1 := Scalar.cmpi .sge v347 arg2
  let c1_i32_209 : BitVec 32 := 1#32
  let c0_i32_210 : BitVec 32 := 0#32
  let v349 : BitVec 32 := Scalar.select v348 c1_i32_209 c0_i32_210
  let v350 : BitVec 32 := Scalar.addi v347 v349
  let v356 : BitVec 1 := Scalar.cmpi .slt v350 arg2
  let c1_i32_214 : BitVec 32 := 1#32
  let c0_i32_215 : BitVec 32 := 0#32
  let v357 : BitVec 32 := Scalar.select v356 c1_i32_214 c0_i32_215
  let v358 : Index := Scalar.indexCast v357
  let c0_217 : Index := 0#32
  let c0_218 : Index := 0#32
  ![0, v358.toNat, 0, 0]
def k0_off11 (i : grid0.Coords) (k0_t1 : Fin k0_t1_loop.trips) : Fin 4 → Nat :=
  let c0_238 : Index := 0#32
  let c1_i32_150 : BitVec 32 := 1#32
  let c2_i32 : BitVec 32 := 2#32
  let c0_i32_99 : BitVec 32 := 0#32
  let c1_i32_100 : BitVec 32 := 1#32
  let arg16 : BitVec 32 := Scf.iv c0_i32_99 c1_i32_100 k0_t1
  let v254 : BitVec 32 := Scalar.muli c2_i32 arg16
  let v255 : BitVec 32 := Scalar.addi c1_i32_150 v254
  let arg2 : BitVec 32 := BitVec.ofNat 32 (i 2).val
  let v256 : BitVec 1 := Scalar.cmpi .sge v255 arg2
  let c1_i32_151 : BitVec 32 := 1#32
  let c0_i32_152 : BitVec 32 := 0#32
  let v257 : BitVec 32 := Scalar.select v256 c1_i32_151 c0_i32_152
  let v258 : BitVec 32 := Scalar.addi v255 v257
  let v383 : Index := Scalar.indexCast v258
  let c0_239 : Index := 0#32
  let c0_240 : Index := 0#32
  ![0, v383.toNat, 0, 0]
def k0_off12 (v144_6 : BitVec 32) : Fin 4 → Nat :=
  let c0_103 : Index := 0#32
  let v150 : Index := Scalar.indexCast v144_6
  let c0_104 : Index := 0#32
  let c0_105 : Index := 0#32
  ![0, v150.toNat, 0, 0]

def k0_chk2 (v144_6 : BitVec 32) : Prop :=
  (∀ a, (k0_off12 v144_6) a + S1x1x128x512.size a ≤ S1x16x128x512.size a)
theorem k0_off12_inb : ∀ (v144_6 : BitVec 32) (k0_hw2 : k0_chk2 v144_6), ∀ a, (k0_off12 v144_6) a + S1x1x128x512.size a ≤ S1x16x128x512.size a := fun v144_6 k0_hw2 => k0_hw2

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x2x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AttnRefIdeal.lean ====
abbrev S8x8192x1024 : Shape := ⟨3, ![8, 8192, 1024]⟩
abbrev S64 : Shape := ⟨1, ![64]⟩
abbrev S128 : Shape := ⟨1, ![128]⟩
abbrev S_ : Shape := ⟨0, ![]⟩
abbrev S8 : Shape := ⟨1, ![8]⟩
abbrev S8x8192x8x2x64 : Shape := ⟨5, ![8, 8192, 8, 2, 64]⟩
abbrev S8x8192x8x128 : Shape := ⟨4, ![8, 8192, 8, 128]⟩
abbrev S8x8x2x8192x8192 : Shape := ⟨5, ![8, 8, 2, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x1x1 : Shape := ⟨3, ![8, 1, 1]⟩
abbrev S1x8192x8192 : Shape := ⟨3, ![1, 8192, 8192]⟩
abbrev S8x8192x8192 : Shape := ⟨3, ![8, 8192, 8192]⟩
abbrev S1x8x1x8192x8192 : Shape := ⟨5, ![1, 8, 1, 8192, 8192]⟩
abbrev S8x8x2x8192 : Shape := ⟨4, ![8, 8, 2, 8192]⟩
abbrev S8x8x2x8192x1 : Shape := ⟨5, ![8, 8, 2, 8192, 1]⟩
abbrev S8x8x1x8192x8192 : Shape := ⟨5, ![8, 8, 1, 8192, 8192]⟩
abbrev S8x8x8192x8192 : Shape := ⟨4, ![8, 8, 8192, 8192]⟩
abbrev S8x8x128x8192 : Shape := ⟨4, ![8, 8, 128, 8192]⟩
abbrev S8x8192x8 : Shape := ⟨3, ![8, 8192, 8]⟩
abbrev S8x8192x8x1 : Shape := ⟨4, ![8, 8192, 8, 1]⟩
abbrev S1x1x1x128 : Shape := ⟨4, ![1, 1, 1, 128]⟩

abbrev nBuf : Space → Nat
  | .hbm => 95
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8x8192x8x2x64, .f32⟩
  | .hbm, ⟨28, _⟩ => ⟨S8x8192x8x2x64, .f32⟩
  | .hbm, ⟨29, _⟩ => ⟨S8x8192x8x128, .f32⟩
  | .hbm, ⟨30, _⟩ => ⟨S8x8x2x8192x8192, .f32⟩
  | .hbm, ⟨31, _⟩ => ⟨S_, .f32⟩
  | .hbm, ⟨32, _⟩ => ⟨S8x8x2x8192x8192, .f32⟩
  | .hbm, ⟨33, _⟩ => ⟨S8x8x2x8192x8192, .f32⟩
  | .hbm, ⟨34, _⟩ => ⟨S8192, .i32⟩
  | .hbm, ⟨35, _⟩ => ⟨S8192x1, .i32⟩
  | .hbm, ⟨36, _⟩ => ⟨S1x8192, .i32⟩
  | .hbm, ⟨37, _⟩ => ⟨S8192x8192, .i32⟩
  | .hbm, ⟨38, _⟩ => ⟨S8192x8192, .i32⟩
  | .hbm, ⟨39, _⟩ => ⟨S8192x8192, .i32⟩
  | .hbm, ⟨40, _⟩ => ⟨S8192x8192, .i32⟩
  | .hbm, ⟨41, _⟩ => ⟨S8192x8192, .f32⟩
  | .hbm, ⟨42, _⟩ => ⟨S8x1x1, .f32⟩
  | .hbm, ⟨43, _⟩ => ⟨S8x1x1, .f32⟩
  | .hbm, ⟨44, _⟩ => ⟨S1x8192x8192, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S1x8x1x8192x8192, .f32⟩
  | .hbm, ⟨49, _⟩ => ⟨S8x8x2x8192x8192, .f32⟩
  | .hbm, ⟨50, _⟩ => ⟨S8x8x2x8192x8192, .f32⟩
  | .hbm, ⟨51, _⟩ => ⟨S_, .f32⟩
  | .hbm, ⟨52, _⟩ => ⟨S8x8x2x8192, .f32⟩
  | .hbm, ⟨53, _⟩ => ⟨S_, .f32⟩
  | .hbm, ⟨54, _⟩ => ⟨S8x8x2x8192, .f32⟩
  | .hbm, ⟨55, _⟩ => ⟨S8x8x2x8192, .f32⟩
  | .hbm, ⟨56, _⟩ => ⟨S8x8x2x8192x1, .f32⟩
  | .hbm, ⟨57, _⟩ => ⟨S8x8x2x8192x8192, .f32⟩
  | .hbm, ⟨58, _⟩ => ⟨S8x8x2x8192x8192, .f32⟩
  | .hbm, ⟨59, _⟩ => ⟨S8x8x2x8192x8192, .f32⟩
  | .hbm, ⟨60, _⟩ => ⟨S_, .f32⟩
  | .hbm, ⟨61, _⟩ => ⟨S8x8x2x8192, .f32⟩
  | .hbm, ⟨62, _⟩ => ⟨S8x8x2x8192x1, .f32⟩
  | .hbm, ⟨63, _⟩ => ⟨S8x8x2x8192x8192, .f32⟩
  | .hbm, ⟨64, _⟩ => ⟨S8x8x2x8192x8192, .f32⟩
  | .hbm, ⟨65, _⟩ => ⟨S8x8x1x8192x8192, .f32⟩
  | .hbm, ⟨66, _⟩ => ⟨S8x8x8192x8192, .f32⟩
  | .hbm, ⟨67, _⟩ => ⟨S8x8x1x8192x8192, .f32⟩
  | .hbm, ⟨68, _⟩ => ⟨S8x8x8192x8192, .f32⟩
  | .hbm, ⟨69, _⟩ => ⟨S8x8x8192x8192, .f32⟩
  | .hbm, ⟨70, _⟩ => ⟨S8x8x8192x8192, .f32⟩
  | .hbm, ⟨71, _⟩ => ⟨S8x8x8192x8192, .f32⟩
  | .hbm, ⟨72, _⟩ => ⟨S8x8x128x8192, .f32⟩
  | .hbm, ⟨73, _⟩ => ⟨S8x8192x8x128, .f32⟩
  | .hbm, ⟨74, _⟩ => ⟨S8x8192x8x128, .f32⟩
  | .hbm, ⟨75, _⟩ => ⟨S_, .f32⟩
  | .hbm, ⟨76, _⟩ => ⟨S8x8192x8, .f32⟩
  | .hbm, ⟨77, _⟩ => ⟨S8x8192x8x1, .f32⟩
  | .hbm, ⟨78, _⟩ => ⟨S_, .f32⟩
  | .hbm, ⟨79, _⟩ => ⟨S8x8192x8x1, .f32⟩
  | .hbm, ⟨80, _⟩ => ⟨S8x8192x8x1, .f32⟩
  | .hbm, ⟨81, _⟩ => ⟨S_, .f32⟩
  | .hbm, ⟨82, _⟩ => ⟨S8x8192x8x1, .f32⟩
  | .hbm, ⟨83, _⟩ => ⟨S8x8192x8x1, .f32⟩
  | .hbm, ⟨84, _⟩ => ⟨S8x8192x8x1, .f32⟩
  | .hbm, ⟨85, _⟩ => ⟨S8x8192x8x128, .f32⟩
  | .hbm, ⟨86, _⟩ => ⟨S8x8192x8x128, .f32⟩
  | .hbm, ⟨87, _⟩ => ⟨S1x1x1x128, .f32⟩
  | .hbm, ⟨88, _⟩ => ⟨S8x8192x8x128, .f32⟩
  | .hbm, ⟨89, _⟩ => ⟨S8x8192x8x128, .f32⟩
  | .hbm, ⟨90, _⟩ => ⟨S_, .f32⟩
  | .hbm, ⟨91, _⟩ => ⟨S8x8192x8x128, .f32⟩
  | .hbm, ⟨92, _⟩ => ⟨S8x8192x8x128, .f32⟩
  | .hbm, ⟨93, _⟩ => ⟨S8x8192x1024, .f32⟩
  | .hbm, ⟨94, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_10 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]
-- ==== Ffn.lean ====
abbrev S65536x1024 : Shape := ⟨2, ![65536, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 17
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024x1024, .bf16⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S65536x1024 : Shape := ⟨2, ![65536, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 74
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x1, .f32⟩
  | .hbm, ⟨22, _⟩ => ⟨S65536x1024, .f32⟩
  | .hbm, ⟨23, _⟩ => ⟨S65536x1024, .f32⟩
  | .hbm, ⟨24, _⟩ => ⟨S1x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536, .f32⟩
  | .hbm, ⟨31, _⟩ => ⟨S65536x1, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1, .f32⟩
  | .hbm, ⟨39, _⟩ => ⟨S65536x1024, .f32⟩
  | .hbm, ⟨40, _⟩ => ⟨S65536x1024, .f32⟩
  | .hbm, ⟨41, _⟩ => ⟨S1x1024, .f32⟩
  | .hbm, ⟨42, _⟩ => ⟨S65536x1024, .f32⟩
  | .hbm, ⟨43, _⟩ => ⟨S65536x1024, .f32⟩
  | .hbm, ⟨44, _⟩ => ⟨S65536x2816, .f32⟩
  | .hbm, ⟨45, _⟩ => ⟨S65536x2816, .f32⟩
  | .hbm, ⟨46, _⟩ => ⟨S65536x2816, .f32⟩
  | .hbm, ⟨47, _⟩ => ⟨S_, .f32⟩
  | .hbm, ⟨48, _⟩ => ⟨S65536x2816, .f32⟩
  | .hbm, ⟨49, _⟩ => ⟨S65536x2816, .f32⟩
  | .hbm, ⟨50, _⟩ => ⟨S_, .f32⟩
  | .hbm, ⟨51, _⟩ => ⟨S65536x2816, .f32⟩
  | .hbm, ⟨52, _⟩ => ⟨S65536x2816, .f32⟩
  | .hbm, ⟨53, _⟩ => ⟨S65536x2816, .f32⟩
  | .hbm, ⟨54, _⟩ => ⟨S65536x2816, .f32⟩
  | .hbm, ⟨55, _⟩ => ⟨S65536x2816, .f32⟩
  | .hbm, ⟨56, _⟩ => ⟨S65536x1024, .f32⟩
  | .hbm, ⟨57, _⟩ => ⟨S65536x1024, .f32⟩
  | .hbm, ⟨58, _⟩ => ⟨S_, .f32⟩
  | .hbm, ⟨59, _⟩ => ⟨S65536, .f32⟩
  | .hbm, ⟨60, _⟩ => ⟨S65536x1, .f32⟩
  | .hbm, ⟨61, _⟩ => ⟨S_, .f32⟩
  | .hbm, ⟨62, _⟩ => ⟨S65536x1, .f32⟩
  | .hbm, ⟨63, _⟩ => ⟨S65536x1, .f32⟩
  | .hbm, ⟨64, _⟩ => ⟨S_, .f32⟩
  | .hbm, ⟨65, _⟩ => ⟨S65536x1, .f32⟩
  | .hbm, ⟨66, _⟩ => ⟨S65536x1, .f32⟩
  | .hbm, ⟨67, _⟩ => ⟨S65536x1, .f32⟩
  | .hbm, ⟨68, _⟩ => ⟨S65536x1024, .f32⟩
  | .hbm, ⟨69, _⟩ => ⟨S65536x1024, .f32⟩
  | .hbm, ⟨70, _⟩ => ⟨S1x1024, .f32⟩
  | .hbm, ⟨71, _⟩ => ⟨S65536x1024, .f32⟩
  | .hbm, ⟨72, _⟩ => ⟨S65536x1024, .f32⟩
  | .hbm, ⟨73, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Qkv.lean ====
abbrev S8x8192x1024 : Shape := ⟨3, ![8, 8192, 1024]⟩
abbrev S1024 : Shape := ⟨1, ![1024]⟩
abbrev S1024x3072 : Shape := ⟨2, ![1024, 3072]⟩
abbrev S1x1024 : Shape := ⟨2, ![1, 1024]⟩
abbrev S8x16x1024x512 : Shape := ⟨4, ![8, 16, 1024, 512]⟩
abbrev S1x512x1024 : Shape := ⟨3, ![1, 512, 1024]⟩
abbrev S1x1x1024x512 : Shape := ⟨4, ![1, 1, 1024, 512]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩

abbrev nBuf : Space → Nat
  | .hbm => 8
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S8x16x1024x512, .bf16⟩
  | .hbm, ⟨6, _⟩ => ⟨S8x8192x1024, .bf16⟩
  | .hbm, ⟨7, _⟩ => ⟨S8x16x1024x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1x1024x512, .bf16⟩
  | .local _ .vmem, ⟨9, _⟩ => ⟨S1x1x1024x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvRefIdeal.lean ====
abbrev S8x8192x1024 : Shape := ⟨3, ![8, 8192, 1024]⟩
abbrev S1024 : Shape := ⟨1, ![1024]⟩
abbrev S1024x3072 : Shape := ⟨2, ![1024, 3072]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3072 : Shape := ⟨3, ![8, 8192, 3072]⟩
abbrev S8x16x512x1024 : Shape := ⟨4, ![8, 16, 512, 1024]⟩
abbrev S8x16x1024x512 : Shape := ⟨4, ![8, 16, 1024, 512]⟩

abbrev nBuf : Space → Nat
  | .hbm => 33
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3072, .f32⟩
  | .hbm, ⟨3, _⟩ => ⟨S8x8192x1024, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S_, .f32⟩
  | .hbm, ⟨8, _⟩ => ⟨S8x8192x1, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S8x8192x1, .f32⟩
  | .hbm, ⟨14, _⟩ => ⟨S8x8192x1024, .f32⟩
  | .hbm, ⟨15, _⟩ => ⟨S8x8192x1024, .f32⟩
  | .hbm, ⟨16, _⟩ => ⟨S1x1x1024, .f32⟩
  | .hbm, ⟨17, _⟩ => ⟨S8x8192x1024, .f32⟩
  | .hbm, ⟨18, _⟩ => ⟨S8x8192x1024, .f32⟩
  | .hbm, ⟨19, _⟩ => ⟨S8x8192x3072, .f32⟩
  | .hbm, ⟨20, _⟩ => ⟨S8x8192x1024, .f32⟩
  | .hbm, ⟨21, _⟩ => ⟨S8x8192x1024, .f32⟩
  | .hbm, ⟨22, _⟩ => ⟨S8x8192x1024, .f32⟩
  | .hbm, ⟨23, _⟩ => ⟨S_, .f32⟩
  | .hbm, ⟨24, _⟩ => ⟨S8x8192x1024, .f32⟩
  | .hbm, ⟨25, _⟩ => ⟨S8x8192x1024, .f32⟩
  | .hbm, ⟨26, _⟩ => ⟨S8x16x512x1024, .f32⟩
  | .hbm, ⟨27, _⟩ => ⟨S8x16x1024x512, .f32⟩
  | .hbm, ⟨28, _⟩ => ⟨S8x16x1024x512, .bf16⟩
  | .hbm, ⟨29, _⟩ => ⟨S8x8192x1024, .bf16⟩
  | .hbm, ⟨30, _⟩ => ⟨S8x16x512x1024, .f32⟩
  | .hbm, ⟨31, _⟩ => ⟨S8x16x1024x512, .f32⟩
  | .hbm, ⟨32, _⟩ => ⟨S8x16x1024x512, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.FfnValue.lean ====
/- The feed-forward call's value: the array the row-tiled kernel leaves is the reference's function of the arguments.
   Each stage of the body, read at row `r` of its tile, is the matching stage of the reference at row `R r` of the
   whole array; the two halves of the hidden axis are two halves of one sum. -/
module

public import proofs.«01_k».proof.Proof.Gen.FfnIdeal.Value
public import proofs.«01_k».proof.Proof.Gen.FfnRefIdeal.Run
public import proofs.«01_k».proof.Proof.Gen.FfnRefIdeal.Read
public import Idealize.ShloMosaic.Lib.Claim
public import Idealize.ShloMosaic.Lib.Pointwise
public import Idealize.ShloMosaic.Lib.Pipeline.ValueKit

@[expose] public section

set_option maxRecDepth 16384

noncomputable section

namespace Cert.FfnIdeal.Mix

open Idealize.ShloMosaic Idealize.ShloMosaic.TcCoe Idealize.SL.Sem
open Cert.FfnIdeal Cert.FfnIdeal.Gen
open Cert.FfnRefIdeal.Read

section Stages

variable (R : Fin 512 → Fin 65536)
variable (x0 : FVec Ideal ⟨2, ![65536, 1024]⟩ .f32) (x1 : FVec Ideal ⟨2, ![65536, 1024]⟩ .bf16)
  (x2 : FVec Ideal ⟨2, ![1024, 1024]⟩ .f32) (x3 x4 : FVec Ideal ⟨1, ![1024]⟩ .f32)
  (x5 x6 : FVec Ideal ⟨2, ![1024, 2816]⟩ .f32) (x7 : FVec Ideal ⟨2, ![2816, 1024]⟩ .f32) (x8 : FVec Ideal ⟨1, ![1024]⟩ .f32)
variable (h : FVec Ideal S512x1024 .f32) (y : FVec Ideal S512x1024 .bf16) (wo : FVec Ideal S1024x1024 .bf16)
  (g1 g2 g3 : FVec Ideal S1x1024 .f32)

/-- The state after the mixer's projection and norm: the body's row `r` is the reference's row `R r`. -/
theorem mid_at (hh : ∀ r k, h (ix2 r k) = x0 (ix2 (R r) k)) (hy : ∀ r k, y (ix2 r k) = x1 (ix2 (R r) k))
    (hwo : ∀ i j, wo (ix2 i j) = x2 (ix2 i j)) (hg : ∀ j, g1 (ix2 0 j) = x3 (ix1 j)) (r : Fin 512) (l : Fin 1024) :
    k0_pay1 (F := Ideal) y wo h g1 (ix2 r l) = val_main_v15 (F := Ideal) x0 x1 x2 x3 (ix2 (R r) l) := by
  pointwise [k0_pay1, hh, hy, hwo, hg, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1]

/-- The normed input of the gate and up products. -/
theorem normed_at (hh : ∀ r k, h (ix2 r k) = x0 (ix2 (R r) k)) (hy : ∀ r k, y (ix2 r k) = x1 (ix2 (R r) k))
    (hwo : ∀ i j, wo (ix2 i j) = x2 (ix2 i j)) (hg : ∀ j, g1 (ix2 0 j) = x3 (ix1 j)) (hg2 : ∀ j, g2 (ix2 0 j) = x4 (ix1 j))
    (r : Fin 512) (l : Fin 1024) :
    k0_pay2 (F := Ideal) y wo h g1 g2 (ix2 r l) = val_main_v28 (F := Ideal) x0 x1 x2 x3 x4 (ix2 (R r) l) := by
  have e := mid_at R x0 x1 x2 x3 h y wo g1 hh hy hwo hg
  pointwise [k0_pay2, e, hg2, val_main_v28, val_main_v27, val_main_v26, val_main_v25, val_main_v24, val_main_v23, val_main_v22,
    val_main_v21, val_main_v20, val_main_v19, val_main_v18, val_main_v17, val_main_v16, val_main_cst_2, val_main_cst_3, val_main_cst_4]

/-- One half of the gate's product, over the normed input: column `f` of the half is column `f` of the whole. -/
theorem gate_at (hh : ∀ r k, h (ix2 r k) = x0 (ix2 (R r) k)) (hy : ∀ r k, y (ix2 r k) = x1 (ix2 (R r) k))
    (hwo : ∀ i j, wo (ix2 i j) = x2 (ix2 i j)) (hg : ∀ j, g1 (ix2 0 j) = x3 (ix1 j)) (hg2 : ∀ j, g2 (ix2 0 j) = x4 (ix1 j))
    (wg : FVec Ideal S1024x1408 .bf16) (hwg : ∀ (k : Fin 1024) (f : Fin 1408), wg (ix2 k f) = x5 (ix2 k ⟨f, by omega⟩))
    (r : Fin 512) (f : Fin 1408) :
    k0_pay3 (F := Ideal) y wo h g1 g2 wg (ix2 r f) = val_main_v29 (F := Ideal) x0 x1 x2 x3 x4 x5 (ix2 (R r) ⟨f, by omega⟩) := by
  have e := normed_at R x0 x1 x2 x3 x4 h y wo g1 g2 hh hy hwo hg hg2
  pointwise [k0_pay3, e, hwg, val_main_v29]

/-- The reference's down projection as the sum of its two halves. -/
theorem down_at (r : Fin 512) (l : Fin 1024) :
    val_main_v33 (F := Ideal) x0 x1 x2 x3 x4 x5 x6 x7 (ix2 (R r) l)
      = (∑ f : Fin 1408, (val_main_v29 (F := Ideal) x0 x1 x2 x3 x4 x5 (ix2 (R r) ⟨f, by omega⟩)
            * Ideal.logistic (val_main_v29 (F := Ideal) x0 x1 x2 x3 x4 x5 (ix2 (R r) ⟨f, by omega⟩))
            * ∑ k : Fin 1024, val_main_v28 (F := Ideal) x0 x1 x2 x3 x4 (ix2 (R r) k) * x6 (ix2 k ⟨f, by omega⟩)) * x7 (ix2 ⟨f, by omega⟩ l))
        + ∑ f : Fin 1408, ((∑ k : Fin 1024, val_main_v28 (F := Ideal) x0 x1 x2 x3 x4 (ix2 (R r) k) * x5 (ix2 k ⟨1408 + f, by omega⟩))
            * Ideal.logistic (∑ k : Fin 1024, val_main_v28 (F := Ideal) x0 x1 x2 x3 x4 (ix2 (R r) k) * x5 (ix2 k ⟨1408 + f, by omega⟩))
            * ∑ k : Fin 1024, val_main_v28 (F := Ideal) x0 x1 x2 x3 x4 (ix2 (R r) k) * x6 (ix2 k ⟨1408 + f, by omega⟩))
              * x7 (ix2 ⟨1408 + f, by omega⟩ l) := by
  pointwise [val_main_v33, val_main_v32, val_main_v31, val_main_v30, val_main_call0_v5, val_main_call0_v4, val_main_call0_v3,
    val_main_call0_v2, val_main_call0_v1, val_main_call0_v0, val_main_call0_cst, val_main_call0_cst_0, val_main_v29]
  exact Fin.sum_univ_two_halves 1408 1408 rfl _

/-- What the body stores, from the stages before it. -/
theorem out_at (a : FVec Ideal S512x1024 .f32) (n : FVec Ideal S512x1024 .bf16) (g : FVec Ideal S512x1408 .f32)
    (ha : ∀ r l, a (ix2 r l) = val_main_v15 (F := Ideal) x0 x1 x2 x3 (ix2 (R r) l))
    (hn : ∀ r l, n (ix2 r l) = val_main_v28 (F := Ideal) x0 x1 x2 x3 x4 (ix2 (R r) l))
    (hgt : ∀ (r : Fin 512) (f : Fin 1408), g (ix2 r f) = val_main_v29 (F := Ideal) x0 x1 x2 x3 x4 x5 (ix2 (R r) ⟨f, by omega⟩))
    (wu wg' wu' : FVec Ideal S1024x1408 .bf16) (wd wd' : FVec Ideal S1408x1024 .bf16)
    (hwu : ∀ (k : Fin 1024) (f : Fin 1408), wu (ix2 k f) = x6 (ix2 k ⟨f, by omega⟩))
    (hwg' : ∀ (k : Fin 1024) (f : Fin 1408), wg' (ix2 k f) = x5 (ix2 k ⟨1408 + f, by omega⟩))
    (hwu' : ∀ (k : Fin 1024) (f : Fin 1408), wu' (ix2 k f) = x6 (ix2 k ⟨1408 + f, by omega⟩))
    (hwd : ∀ (f : Fin 1408) (l : Fin 1024), wd (ix2 f l) = x7 (ix2 ⟨f, by omega⟩ l))
    (hwd' : ∀ (f : Fin 1408) (l : Fin 1024), wd' (ix2 f l) = x7 (ix2 ⟨1408 + f, by omega⟩ l))
    (hg3 : ∀ j, g3 (ix2 0 j) = x8 (ix1 j)) (r : Fin 512) (l : Fin 1024) :
    k0_pay4 (F := Ideal) a n g wu wd wg' wu' wd' g3 (ix2 r l)
      = val_main_v47 (F := Ideal) x0 x1 x2 x3 x4 x5 x6 x7 x8 (ix2 (R r) l) := by
  pointwise [k0_pay4, ha, hn, hgt, hwu, hwg', hwu', hwd, hwd', hg3, val_main_v47, val_main_v46, val_main_v45, val_main_v44,
    val_main_v43, val_main_v42, val_main_v41, val_main_v40, val_main_v39, val_main_v38, val_main_v37, val_main_v36, val_main_v35,
    val_main_v34, val_main_cst_5, val_main_cst_6, val_main_cst_7]
  have key := fun j => down_at R x0 x1 x2 x3 x4 x5 x6 x7 r j
  simp only [key]

end Stages

section Array

variable (m : (ℓ : Loc nD τ sig) → Buf (Elt Ideal) ℓ)

/-- The tile windows move with the point; the weights and gains are staged whole. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ t.val < 128 :=
  (by decide +kernel : ∀ t : Fin grid0.N, _)

/-- Row `r` of point `t`'s tile, in the whole array. -/
def row (t : Fin cfg0.N) (r : Fin 512) : Fin 65536 := ⟨t.val * 512 + r.val, by have := (idx t).2.2.2.2.2.2.2.2.2.2; omega⟩

theorem gain3 (c : Dev nD) (t : Fin cfg0.N) (j : Fin 1024) :
    (show FVec Ideal S1x1024 .f32 from iblk m c 3 t) (ix2 0 j) = (show FVec Ideal ⟨1, ![1024]⟩ .f32 from m ((c : Thread nD τ).loc main_arg3)) (ix1 j) := by
  have e : (show FVec Ideal S1x1024 .f32 from iblk m c 3 t) (ix2 0 j) = (show FVec Ideal S1x1024 .f32 from V m c main_v4) (ix2 0 j) := by
    blk_ext [iblk, idx t]
  rw [e]
  entry_read
  pointwise

theorem gain4 (c : Dev nD) (t : Fin cfg0.N) (j : Fin 1024) :
    (show FVec Ideal S1x1024 .f32 from iblk m c 4 t) (ix2 0 j) = (show FVec Ideal ⟨1, ![1024]⟩ .f32 from m ((c : Thread nD τ).loc main_arg4)) (ix1 j) := by
  have e : (show FVec Ideal S1x1024 .f32 from iblk m c 4 t) (ix2 0 j) = (show FVec Ideal S1x1024 .f32 from V m c main_v5) (ix2 0 j) := by
    blk_ext [iblk, idx t]
  rw [e]
  entry_read
  pointwise

theorem gain8 (c : Dev nD) (t : Fin cfg0.N) (j : Fin 1024) :
    (show FVec Ideal S1x1024 .f32 from iblk m c 8 t) (ix2 0 j) = (show FVec Ideal ⟨1, ![1024]⟩ .f32 from m ((c : Thread nD τ).loc main_arg8)) (ix1 j) := by
  have e : (show FVec Ideal S1x1024 .f32 from iblk m c 8 t) (ix2 0 j) = (show FVec Ideal S1x1024 .f32 from V m c main_v6) (ix2 0 j) := by
    blk_ext [iblk, idx t]
  rw [e]
  entry_read
  pointwise

theorem weight2 (c : Dev nD) (t : Fin cfg0.N) (i : Fin 1024) (j : Fin 1024) :
    (show FVec Ideal S1024x1024 .bf16 from iblk m c 2 t) (ix2 i j) = (show FVec Ideal ⟨2, ![1024, 1024]⟩ .f32 from m ((c : Thread nD τ).loc main_arg2)) (ix2 i j) := by
  have e : (show FVec Ideal S1024x1024 .bf16 from iblk m c 2 t) (ix2 i j) = (show FVec Ideal S1024x1024 .bf16 from V m c main_v0) (ix2 i j) := by
    blk_ext [iblk, idx t]
  rw [e]
  entry_read
  pointwise

theorem weight5 (c : Dev nD) (t : Fin cfg0.N) (i : Fin 1024) (j : Fin 2816) :
    (show FVec Ideal S1024x2816 .bf16 from iblk m c 5 t) (ix2 i j) = (show FVec Ideal ⟨2, ![1024, 2816]⟩ .f32 from m ((c : Thread nD τ).loc main_arg5)) (ix2 i j) := by
  have e : (show FVec Ideal S1024x2816 .bf16 from iblk m c 5 t) (ix2 i j) = (show FVec Ideal S1024x2816 .bf16 from V m c main_v1) (ix2 i j) := by
    blk_ext [iblk, idx t]
  rw [e]
  entry_read
  pointwise

theorem weight6 (c : Dev nD) (t : Fin cfg0.N) (i : Fin 1024) (j : Fin 2816) :
    (show FVec Ideal S1024x2816 .bf16 from iblk m c 6 t) (ix2 i j) = (show FVec Ideal ⟨2, ![1024, 2816]⟩ .f32 from m ((c : Thread nD τ).loc main_arg6)) (ix2 i j) := by
  have e : (show FVec Ideal S1024x2816 .bf16 from iblk m c 6 t) (ix2 i j) = (show FVec Ideal S1024x2816 .bf16 from V m c main_v2) (ix2 i j) := by
    blk_ext [iblk, idx t]
  rw [e]
  entry_read
  pointwise

theorem weight7 (c : Dev nD) (t : Fin cfg0.N) (i : Fin 2816) (j : Fin 1024) :
    (show FVec Ideal S2816x1024 .bf16 from iblk m c 7 t) (ix2 i j) = (show FVec Ideal ⟨2, ![2816, 1024]⟩ .f32 from m ((c : Thread nD τ).loc main_arg7)) (ix2 i j) := by
  have e : (show FVec Ideal S2816x1024 .bf16 from iblk m c 7 t) (ix2 i j) = (show FVec Ideal S2816x1024 .bf16 from V m c main_v3) (ix2 i j) := by
    blk_ext [iblk, idx t]
  rw [e]
  entry_read
  pointwise

theorem rows0 (c : Dev nD) (t : Fin cfg0.N) (r : Fin 512) (k : Fin 1024) :
    (show FVec Ideal S512x1024 .f32 from iblk m c 0 t) (ix2 r k)
      = (show FVec Ideal ⟨2, ![65536, 1024]⟩ .f32 from m ((c : Thread nD τ).loc main_arg0)) (ix2 (row t r) k) := by
  blk_ext [iblk, V, idx t, row]

theorem rows1 (c : Dev nD) (t : Fin cfg0.N) (r : Fin 512) (k : Fin 1024) :
    (show FVec Ideal S512x1024 .bf16 from iblk m c 1 t) (ix2 r k)
      = (show FVec Ideal ⟨2, ![65536, 1024]⟩ .bf16 from m ((c : Thread nD τ).loc main_arg1)) (ix2 (row t r) k) := by
  blk_ext [iblk, V, idx t, row]

/-- The result array after the run is the reference's function of the argument arrays. -/
theorem final (c : Dev nD) : (dats m 0 c).arrAt 9 (cfgs 0).N
    = val_main_v47 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  refine (dats m 0 c).arrAt_eq_of_covers 9 _ (by decide +kernel) fun t _ y => ?_
  blk_simp
  rw [after0_9]
  frame_out
  idx_vars y
  have hR : ((cfg0.win 9).blk t).view.emb (ix2 y0 y1) = (ix2 (row t y0) y1 : S65536x1024.Idx) := by
    blk_ext [idx t, row]
  rw [hR]
  refine out_at (row t) _ _ _ _ _ _ _ _ _ _ _ _ _
    (mid_at (row t) _ _ _ _ _ _ _ _ (rows0 m c t) (rows1 m c t) (weight2 m c t) (gain3 m c t))
    (normed_at (row t) _ _ _ _ _ _ _ _ _ _ (rows0 m c t) (rows1 m c t) (weight2 m c t) (gain3 m c t) (gain4 m c t))
    (gate_at (row t) _ _ _ _ _ _ _ _ _ _ _ (rows0 m c t) (rows1 m c t) (weight2 m c t) (gain3 m c t) (gain4 m c t) _ ?_)
    _ _ _ _ _ ?_ ?_ ?_ ?_ ?_ (gain8 m c t) y0 y1
  · intro k f; pointwise; exact weight5 m c t _ _
  · intro k f; pointwise; exact weight6 m c t _ _
  · intro k f; pointwise; exact weight5 m c t _ _
  · intro k f; pointwise; exact weight6 m c t _ _
  · intro k f; pointwise; exact weight7 m c t _ _
  · intro k f; pointwise; exact weight7 m c t _ _

end Array

end Cert.FfnIdeal.Mix

end
-- ==== Proof.QkvValue.lean ====
/- The qkv projection's value: the three arrays the row-tiled kernel leaves are the reference's functions of the
   arguments. A tile's rows are rows of the whole array, and each of the three products reads its third of the weight. -/
module

public import proofs.«01_k».proof.Proof.Gen.QkvIdeal.Value
public import proofs.«01_k».proof.Proof.Gen.QkvRefIdeal.Run
public import proofs.«01_k».proof.Proof.Gen.QkvRefIdeal.Read
public import Idealize.ShloMosaic.Lib.Claim
public import Idealize.ShloMosaic.Lib.Pointwise
public import Idealize.ShloMosaic.Lib.Pipeline.ValueKit

@[expose] public section

set_option maxRecDepth 16384

noncomputable section

namespace Cert.QkvIdeal.Mix

open Idealize.ShloMosaic Idealize.ShloMosaic.TcCoe Idealize.SL.Sem
open Cert.QkvIdeal Cert.QkvIdeal.Gen
open Cert.QkvRefIdeal.Read

section Stages

variable (B : Fin 8) (T : Fin 16)
variable (x0 : FVec Ideal ⟨3, ![8, 8192, 1024]⟩ .f32) (x1 : FVec Ideal ⟨1, ![1024]⟩ .f32) (x2 : FVec Ideal ⟨2, ![1024, 3072]⟩ .f32)
variable (h : FVec Ideal S1x512x1024 .f32) (g : FVec Ideal S1x1024 .f32) (w : FVec Ideal S1024x1024 .bf16)

/-- Row `r` of tile `T`, in the whole array. -/
def row (r : Fin 512) : Fin 8192 := ⟨T.val * 512 + r.val, by omega⟩

/-- The normed input: the body's row `r` is the reference's row of the tile. -/
theorem normed_at (hh : ∀ r k, h (ix3 0 r k) = x0 (ix3 B (row T r) k)) (hg : ∀ j, g (ix2 0 j) = x1 (ix1 j)) (r : Fin 512) (l : Fin 1024) :
    k0_pay3 (F := Ideal) h g (ix2 r l) = val_main_v12 (F := Ideal) x0 x1 (ix3 B (row T r) l) := by
  pointwise [k0_pay3, hh, hg, val_main_v12, val_main_v11, val_main_v10, val_main_v9, val_main_v8, val_main_v7, val_main_v6,
    val_main_v5, val_main_v4, val_main_v3, val_main_v2, val_main_v1, val_main_v0, val_main_cst, val_main_cst_0, val_main_cst_1]

/-- The keys: the product with the middle third of the weight. -/
theorem key_at (hh : ∀ r k, h (ix3 0 r k) = x0 (ix3 B (row T r) k)) (hg : ∀ j, g (ix2 0 j) = x1 (ix1 j))
    (hw : ∀ (k f : Fin 1024), w (ix2 k f) = x2 (ix2 k ⟨1024 + f.val, by omega⟩)) (r : Fin 512) (f : Fin 1024) :
    k0_pay4 (F := Ideal) h g w (ix3 0 r f) = val_main_v22 (F := Ideal) x0 x1 x2 (ix3 B (row T r) f) := by
  have e := normed_at B T x0 x1 h g hh hg
  pointwise [k0_pay4, e, hw, val_main_v22, val_main_v15, val_main_v13]

/-- The values: the product with the last third. -/
theorem val_at (hh : ∀ r k, h (ix3 0 r k) = x0 (ix3 B (row T r) k)) (hg : ∀ j, g (ix2 0 j) = x1 (ix1 j))
    (hw : ∀ (k f : Fin 1024), w (ix2 k f) = x2 (ix2 k ⟨2048 + f.val, by omega⟩)) (r : Fin 512) (f : Fin 1024) :
    k0_pay5 (F := Ideal) h g w (ix2 r f) = val_main_v16 (F := Ideal) x0 x1 x2 (ix3 B (row T r) f) := by
  have e := normed_at B T x0 x1 h g hh hg
  pointwise [k0_pay5, e, hw, val_main_v16, val_main_v13]

/-- The queries: the scaled product with the first third, turned. -/
theorem query_at (hh : ∀ r k, h (ix3 0 r k) = x0 (ix3 B (row T r) k)) (hg : ∀ j, g (ix2 0 j) = x1 (ix1 j))
    (hw : ∀ (k f : Fin 1024), w (ix2 k f) = x2 (ix2 k ⟨f.val, by omega⟩)) (f : Fin 1024) (r : Fin 512) :
    k0_pay6 (F := Ideal) h g w (ix2 f r) = val_main_v18 (F := Ideal) x0 x1 x2 (ix3 B (row T r) f) := by
  have e := normed_at B T x0 x1 h g hh hg
  pointwise [k0_pay6, e, hw, val_main_v18, val_main_v17, val_main_cst_2, val_main_v14, val_main_v13]

/-- The reference's tiles of the queries. -/
theorem qtile_at (f : Fin 1024) (r : Fin 512) :
    val_main_v21 (F := Ideal) x0 x1 x2 (ix4 B T f r) = val_main_v18 (F := Ideal) x0 x1 x2 (ix3 B (row T r) f) := by
  have e : val_main_v19 (F := Ideal) x0 x1 x2 (ix4 B T r f) = val_main_v18 (F := Ideal) x0 x1 x2 (ix3 B (row T r) f) :=
    shapeCast_apply _ _ (ix4 B T r f) (ix3 B (row T r) f) (by
      rw [Shape.rowMajor_val_three, Shape.rowMajor_val_four]
      show (B.val * 8192 + (T.val * 512 + r.val)) * 1024 + f.val = ((B.val * 16 + T.val) * 512 + r.val) * 1024 + f.val
      omega)
  pointwise [val_main_v21, val_main_v20, e]

/-- The reference's tiles of the values. -/
theorem vtile_at (f : Fin 1024) (r : Fin 512) :
    val_main_v25 (F := Ideal) x0 x1 x2 (ix4 B T f r) = val_main_v16 (F := Ideal) x0 x1 x2 (ix3 B (row T r) f) := by
  have e : val_main_v23 (F := Ideal) x0 x1 x2 (ix4 B T r f) = val_main_v16 (F := Ideal) x0 x1 x2 (ix3 B (row T r) f) :=
    shapeCast_apply _ _ (ix4 B T r f) (ix3 B (row T r) f) (by
      rw [Shape.rowMajor_val_three, Shape.rowMajor_val_four]
      show (B.val * 8192 + (T.val * 512 + r.val)) * 1024 + f.val = ((B.val * 16 + T.val) * 512 + r.val) * 1024 + f.val
      omega)
  pointwise [val_main_v25, val_main_v24, e]

/-- What the body stores of the queries. -/
theorem query_out (hh : ∀ r k, h (ix3 0 r k) = x0 (ix3 B (row T r) k)) (hg : ∀ j, g (ix2 0 j) = x1 (ix1 j))
    (hw : ∀ (k f : Fin 1024), w (ix2 k f) = x2 (ix2 k ⟨f.val, by omega⟩)) (f : Fin 1024) (r : Fin 512) :
    k0_pay1 (F := Ideal) (k0_pay6 (F := Ideal) h g w) (ix4 0 0 f r) = val_main_v21 (F := Ideal) x0 x1 x2 (ix4 B T f r) := by
  rw [qtile_at, ← query_at B T x0 x1 x2 h g w hh hg hw f r]
  pointwise [k0_pay1]

/-- What the body stores of the values. -/
theorem val_out (hh : ∀ r k, h (ix3 0 r k) = x0 (ix3 B (row T r) k)) (hg : ∀ j, g (ix2 0 j) = x1 (ix1 j))
    (hw : ∀ (k f : Fin 1024), w (ix2 k f) = x2 (ix2 k ⟨2048 + f.val, by omega⟩)) (f : Fin 1024) (r : Fin 512) :
    k0_pay2 (F := Ideal) (k0_pay5 (F := Ideal) h g w) (ix4 0 0 f r) = val_main_v25 (F := Ideal) x0 x1 x2 (ix4 B T f r) := by
  rw [vtile_at, ← val_at B T x0 x1 x2 h g w hh hg hw r f]
  pointwise [k0_pay2]

end Stages

section Array

variable (m : (ℓ : Loc nD τ sig) → Buf (Elt Ideal) ℓ)

/-- The tile windows move with the point; the weight and the gain are staged whole. -/
theorem idx : ∀ t : Fin cfg0.N, win0_0.index t = ![t.val / 16, t.val % 16, 0] ∧ win0_1.index t = ![0, 0] ∧ win0_2.index t = ![0, 0]
    ∧ win0_3.index t = ![t.val / 16, t.val % 16, 0, 0] ∧ win0_4.index t = ![t.val / 16, t.val % 16, 0]
    ∧ win0_5.index t = ![t.val / 16, t.val % 16, 0, 0] ∧ t.val < 128 :=
  (by decide +kernel : ∀ t : Fin grid0.N, _)

/-- The batch entry of a point. -/
def bat (t : Fin cfg0.N) : Fin 8 := ⟨t.val / 16, by have := (idx t).2.2.2.2.2.2; omega⟩
/-- The tile of a point. -/
def til (t : Fin cfg0.N) : Fin 16 := ⟨t.val % 16, by omega⟩

/-- The gain is staged as it is. -/
theorem gain (c : Dev nD) (t : Fin cfg0.N) (j : Fin 1024) :
    (show FVec Ideal S1x1024 .f32 from iblk m c 1 t) (ix2 0 j) = (show FVec Ideal ⟨1, ![1024]⟩ .f32 from m ((c : Thread nD τ).loc main_arg1)) (ix1 j) := by
  have e : (show FVec Ideal S1x1024 .f32 from iblk m c 1 t) (ix2 0 j) = (show FVec Ideal S1x1024 .f32 from V m c main_v1) (ix2 0 j) := by
    blk_ext [iblk, idx t]
  rw [e]
  entry_read
  pointwise

/-- The weight is staged as it is. -/
theorem weight (c : Dev nD) (t : Fin cfg0.N) (i : Fin 1024) (j : Fin 3072) :
    (show FVec Ideal S1024x3072 .bf16 from iblk m c 2 t) (ix2 i j) = (show FVec Ideal ⟨2, ![1024, 3072]⟩ .f32 from m ((c : Thread nD τ).loc main_arg2)) (ix2 i j) := by
  have e : (show FVec Ideal S1024x3072 .bf16 from iblk m c 2 t) (ix2 i j) = (show FVec Ideal S1024x3072 .bf16 from V m c main_v0) (ix2 i j) := by
    blk_ext [iblk, idx t]
  rw [e]
  entry_read
  pointwise

/-- A point's rows of the input. -/
theorem rows (c : Dev nD) (t : Fin cfg0.N) (r : Fin 512) (k : Fin 1024) :
    (show FVec Ideal S1x512x1024 .f32 from iblk m c 0 t) (ix3 0 r k)
      = (show FVec Ideal ⟨3, ![8, 8192, 1024]⟩ .f32 from m ((c : Thread nD τ).loc main_arg0)) (ix3 (bat t) (row (til t) r) k) := by
  blk_ext [iblk, V, idx t, row, bat, til]

/-- The query tiles after the run are the reference's. -/
theorem final_q (c : Dev nD) : (dats m 0 c).arrAt 3 (cfgs 0).N
    = val_main_v21 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  idx_vars y
  obtain rfl : y0 = 0 := Subsingleton.elim _ _
  obtain rfl : y1 = 0 := Subsingleton.elim _ _
  have hR : ((cfg0.win 3).blk t).view.emb (ix4 0 0 y2 y3) = (ix4 (bat t) (til t) y2 y3 : S8x16x1024x512.Idx) := by
    blk_ext [idx t, bat, til]
  rw [hR]
  refine query_out (bat t) (til t) _ _ _ _ _ _ (rows m c t) (gain m c t) ?_ y2 y3
  intro k f; pointwise; exact weight m c t _ _

/-- The keys after the run are the reference's. -/
theorem final_k (c : Dev nD) : (dats m 0 c).arrAt 4 (cfgs 0).N
    = val_main_v22 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  idx_vars y
  obtain rfl : y0 = 0 := Subsingleton.elim _ _
  have hR : ((cfg0.win 4).blk t).view.emb (ix3 0 y1 y2) = (ix3 (bat t) (row (til t) y1) y2 : S8x8192x1024.Idx) := by
    blk_ext [idx t, bat, til, row]
  rw [hR]
  refine key_at (bat t) (til t) _ _ _ _ _ _ (rows m c t) (gain m c t) ?_ y1 y2
  intro k f; pointwise; exact weight m c t _ _

/-- The value tiles after the run are the reference's. -/
theorem final_v (c : Dev nD) : (dats m 0 c).arrAt 5 (cfgs 0).N
    = val_main_v25 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  idx_vars y
  obtain rfl : y0 = 0 := Subsingleton.elim _ _
  obtain rfl : y1 = 0 := Subsingleton.elim _ _
  have hR : ((cfg0.win 5).blk t).view.emb (ix4 0 0 y2 y3) = (ix4 (bat t) (til t) y2 y3 : S8x16x1024x512.Idx) := by
    blk_ext [idx t, bat, til]
  rw [hR]
  refine val_out (bat t) (til t) _ _ _ _ _ _ (rows m c t) (gain m c t) ?_ y2 y3
  intro k f; pointwise; exact weight m c t _ _

end Array

end Cert.QkvIdeal.Mix

end
-- ==== Proof.AttnIdealTrip.lean ====
/- The attention call's body at a grid point: what one trip of its loop over the other key tiles does. -/
module

public import proofs.«01_k».proof.Proof.Gen.AttnIdeal.Frame
public import proofs.«01_k».proof.Proof.Gen.AttnIdeal.Loops
public import Idealize.ShloMosaic.Lib.Pipeline.ReadBack

@[expose] public section

set_option maxRecDepth 16384

noncomputable section

namespace Cert.AttnIdeal.Mix

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The running state -/

/-- What is carried between two accumulations: per component the running maximum `m`, sum `l` and weighted
    values `a`, and the next tile's number `j`, scores `s` and column maxima `x`. -/
structure St (F : FTy → Type) where
  m0 : FVec F S1x512 .f32
  l0 : FVec F S1x512 .f32
  m1 : FVec F S1x512 .f32
  l1 : FVec F S1x512 .f32
  x0 : FVec F S1x512 .f32
  x1 : FVec F S1x512 .f32
  j : BitVec 32
  s0 : Vec F S1x1x512x512 .f32
  s1 : Vec F S1x1x512x512 .f32
  a0 : Vec F S1x128x512 .f32
  a1 : Vec F S1x128x512 .f32

/-- The part of the state the loop carries in registers. -/
def St.carry (s : St F) : FVec F S1x512 .f32 × FVec F S1x512 .f32 × FVec F S1x512 .f32 × FVec F S1x512 .f32 × FVec F S1x512 .f32 × FVec F S1x512 .f32 × BitVec 32 :=
  (s.m0, s.l0, s.m1, s.l1, s.x0, s.x1, s.j)

/-- The two score tiles of a slot, and the two accumulators, as rectangles of their scratch buffers. -/
abbrev rS (u v : ℕ) (h : ∀ a, (![u, v, 0, 0] : Fin 4 → ℕ) a + S1x1x512x512.size a ≤ S2x2x512x512.size a) : Rect S2x2x512x512 :=
  Rect.unit (s := S2x2x512x512) ![u, v, 0, 0] S1x1x512x512.size h
abbrev rS00 := rS 0 0 inb_S2x2x512x512_S1x1x512x512_0_0_0_0
abbrev rS01 := rS 0 1 inb_S2x2x512x512_S1x1x512x512_0_1_0_0
abbrev rS10 := rS 1 0 inb_S2x2x512x512_S1x1x512x512_1_0_0_0
abbrev rS11 := rS 1 1 inb_S2x2x512x512_S1x1x512x512_1_1_0_0
abbrev rA0 : Rect S2x128x512 := Rect.unit (s := S2x128x512) ![0, 0, 0] S1x128x512.size inb_S2x128x512_S1x128x512_0_0_0
abbrev rA1 : Rect S2x128x512 := Rect.unit (s := S2x128x512) ![1, 0, 0] S1x128x512.size inb_S2x128x512_S1x128x512_1_0_0
abbrev rQ0 : Rect S2x256x512 := Rect.unit (s := S2x256x512) ![0, 0, 0] S1x256x512.size inb_S2x256x512_S1x256x512_0_0_0
abbrev rQ1 : Rect S2x256x512 := Rect.unit (s := S2x256x512) ![1, 0, 0] S1x256x512.size inb_S2x256x512_S1x256x512_1_0_0

/-- The value tile of the word `j` (of tile `0` were the word no tile's number). -/
def vTile (i : grid0.Coords) (x3 : Vec F S1x16x128x512 .bf16) (j : BitVec 32) : Vec F S1x1x128x512 .bf16 :=
  if h : k0_chk1 j then View.ld x3 (Rect.unit (s := S1x16x128x512) (k0_off8 j) S1x1x128x512.size (k0_off8_inb j h))
  else View.ld x3 (Rect.unit (s := S1x16x128x512) (k0_off5 i) S1x1x128x512.size (k0_off5_inb i))

/-- The word of the tile trip `k` scores first, and the one it scores second. -/
def wordA (i : grid0.Coords) (k : Fin k0_t1_loop.trips) : BitVec 32 :=
  Scalar.addi (Scalar.addi 1#32 (Scalar.muli 2#32 (Scf.iv 0#32 1#32 k)))
    (Scalar.select (Scalar.cmpi .sge (Scalar.addi 1#32 (Scalar.muli 2#32 (Scf.iv 0#32 1#32 k))) (BitVec.ofNat 32 (i 2).val)) 1#32 0#32)
def wordB (i : grid0.Coords) (k : Fin k0_t1_loop.trips) : BitVec 32 :=
  Scalar.addi (Scalar.addi 2#32 (Scalar.muli 2#32 (Scf.iv 0#32 1#32 k)))
    (Scalar.select (Scalar.cmpi .sge (Scalar.addi 2#32 (Scalar.muli 2#32 (Scf.iv 0#32 1#32 k))) (BitVec.ofNat 32 (i 2).val)) 1#32 0#32)

/-- The keys and the position columns the two scorings of trip `k` read, and the values of the first's tile. -/
def keysA (i : grid0.Coords) (x2 : Vec F S1x8192x128 .bf16) (k : Fin k0_t1_loop.trips) : Vec F S1x512x128 .bf16 :=
  View.ld x2 (Rect.unit (s := S1x8192x128) (k0_off6 i k) S1x512x128.size (k0_off6_inb i k))
def posA (i : grid0.Coords) (x5 : Vec F S1x2x512x128 .bf16) (k : Fin k0_t1_loop.trips) : Vec F S1x1x512x128 .bf16 :=
  View.ld x5 (Rect.unit (s := S1x2x512x128) (k0_off7 i k) S1x1x512x128.size (k0_off7_inb i k))
def keysB (i : grid0.Coords) (x2 : Vec F S1x8192x128 .bf16) (k : Fin k0_t1_loop.trips) : Vec F S1x512x128 .bf16 :=
  View.ld x2 (Rect.unit (s := S1x8192x128) (k0_off9 i k) S1x512x128.size (k0_off9_inb i k))
def posB (i : grid0.Coords) (x5 : Vec F S1x2x512x128 .bf16) (k : Fin k0_t1_loop.trips) : Vec F S1x1x512x128 .bf16 :=
  View.ld x5 (Rect.unit (s := S1x2x512x128) (k0_off10 i k) S1x1x512x128.size (k0_off10_inb i k))
def valsA (i : grid0.Coords) (x3 : Vec F S1x16x128x512 .bf16) (k : Fin k0_t1_loop.trips) : Vec F S1x1x128x512 .bf16 :=
  View.ld x3 (Rect.unit (s := S1x16x128x512) (k0_off11 i k) S1x1x128x512.size (k0_off11_inb i k))

/-- The first half of trip `k`: the waiting tile accumulated, the next one scored. -/
def half (i : grid0.Coords) (sl : Elt F .f32) (x2 : Vec F S1x8192x128 .bf16) (x3 : Vec F S1x16x128x512 .bf16) (x5 : Vec F S1x2x512x128 .bf16)
    (q0 q1 : Vec F S1x256x512 .bf16) (k : Fin k0_t1_loop.trips) (s : St F) : St F where
  m0 := k0_pay11 (BitVec.ofNat 32 (i 2).val) sl s.m0 s.x0 s.j
  l0 := k0_pay14 (BitVec.ofNat 32 (i 2).val) sl s.m0 s.l0 s.x0 s.j s.s0
  m1 := k0_pay16 (BitVec.ofNat 32 (i 2).val) sl s.m1 s.x1 s.j
  l1 := k0_pay19 s.m1 s.l1 (k0_pay9 (BitVec.ofNat 32 (i 2).val) sl s.j) (k0_pay16 (BitVec.ofNat 32 (i 2).val) sl s.m1 s.x1 s.j) s.s1
  x0 := k0_pay5 (keysA i x2 k) (posA i x5 k) q0
  x1 := k0_pay8 (k0_pay6 (keysA i x2 k) (posA i x5 k) q1)
  j := wordA i k
  s0 := k0_pay4 (keysA i x2 k) (posA i x5 k) q0
  s1 := k0_pay7 (k0_pay6 (keysA i x2 k) (posA i x5 k) q1)
  a0 := k0_pay15 (BitVec.ofNat 32 (i 2).val) sl s.m0 s.x0 s.j (vTile i x3 s.j) s.s0 s.a0
  a1 := k0_pay20 s.m1 (k0_pay9 (BitVec.ofNat 32 (i 2).val) sl s.j) (k0_pay10 (vTile i x3 s.j)) (k0_pay16 (BitVec.ofNat 32 (i 2).val) sl s.m1 s.x1 s.j) s.s1 s.a1

/-- The second half, from the first half's state. -/
def half' (i : grid0.Coords) (sl : Elt F .f32) (x2 : Vec F S1x8192x128 .bf16) (x3 : Vec F S1x16x128x512 .bf16) (x5 : Vec F S1x2x512x128 .bf16)
    (q0 q1 : Vec F S1x256x512 .bf16) (k : Fin k0_t1_loop.trips) (s : St F) : St F where
  m0 := k0_pay31 (BitVec.ofNat 32 (i 2).val) sl s.j s.x0 s.m0
  l0 := k0_pay34 s.l0 (k0_pay29 (BitVec.ofNat 32 (i 2).val) sl s.j) (k0_pay31 (BitVec.ofNat 32 (i 2).val) sl s.j s.x0 s.m0) (k0_pay32 (BitVec.ofNat 32 (i 2).val) sl s.j s.x0 s.m0) s.s0
  m1 := k0_pay36 s.x1 s.m1 (k0_pay29 (BitVec.ofNat 32 (i 2).val) sl s.j)
  l1 := k0_pay39 s.x1 s.m1 s.l1 (k0_pay29 (BitVec.ofNat 32 (i 2).val) sl s.j) s.s1
  x0 := k0_pay25 (k0_pay21 (keysB i x2 k)) (posB i x5 k) q0
  x1 := k0_pay28 (k0_pay21 (keysB i x2 k)) (posB i x5 k) q1
  j := wordB i k
  s0 := k0_pay24 (k0_pay21 (keysB i x2 k)) (posB i x5 k) q0
  s1 := k0_pay27 (k0_pay21 (keysB i x2 k)) (posB i x5 k) q1
  a0 := k0_pay35 (k0_pay29 (BitVec.ofNat 32 (i 2).val) sl s.j) (k0_pay30 (valsA i x3 k)) (k0_pay31 (BitVec.ofNat 32 (i 2).val) sl s.j s.x0 s.m0) (k0_pay32 (BitVec.ofNat 32 (i 2).val) sl s.j s.x0 s.m0) s.s0 s.a0
  a1 := k0_pay78 (k0_pay30 (valsA i x3 k)) (k0_pay40 s.x1 s.m1 (k0_pay29 (BitVec.ofNat 32 (i 2).val) sl s.j) s.a1) (k0_pay41 s.x1 s.m1 (k0_pay29 (BitVec.ofNat 32 (i 2).val) sl s.j) s.s1)

/-- One trip. -/
def step (i : grid0.Coords) (sl : Elt F .f32) (x2 : Vec F S1x8192x128 .bf16) (x3 : Vec F S1x16x128x512 .bf16) (x5 : Vec F S1x2x512x128 .bf16)
    (q0 q1 : Vec F S1x256x512 .bf16) (k : Fin k0_t1_loop.trips) (s : St F) : St F :=
  half' i sl x2 x3 x5 q0 q1 k (half i sl x2 x3 x5 q0 q1 k s)

/-- The state before trip `k`, from the one before the loop. -/
def stAt (i : grid0.Coords) (sl : Elt F .f32) (x2 : Vec F S1x8192x128 .bf16) (x3 : Vec F S1x16x128x512 .bf16) (x5 : Vec F S1x2x512x128 .bf16)
    (q0 q1 : Vec F S1x256x512 .bf16) (s : St F) : ℕ → St F
  | 0 => s
  | k + 1 => if h : k < k0_t1_loop.trips then step i sl x2 x3 x5 q0 q1 ⟨k, h⟩ (stAt i sl x2 x3 x5 q0 q1 s k) else stAt i sl x2 x3 x5 q0 q1 s k

theorem stAt_zero (i : grid0.Coords) (sl : Elt F .f32) (x2 : Vec F S1x8192x128 .bf16) (x3 : Vec F S1x16x128x512 .bf16) (x5 : Vec F S1x2x512x128 .bf16)
    (q0 q1 : Vec F S1x256x512 .bf16) (s : St F) : stAt i sl x2 x3 x5 q0 q1 s 0 = s := stAt.eq_1 ..

theorem stAt_succ (i : grid0.Coords) (sl : Elt F .f32) (x2 : Vec F S1x8192x128 .bf16) (x3 : Vec F S1x16x128x512 .bf16) (x5 : Vec F S1x2x512x128 .bf16)
    (q0 q1 : Vec F S1x256x512 .bf16) (s : St F) (k : Fin k0_t1_loop.trips) :
    stAt i sl x2 x3 x5 q0 q1 s (k.val + 1) = step i sl x2 x3 x5 q0 q1 k (stAt i sl x2 x3 x5 q0 q1 s k.val) := by
  rw [stAt.eq_2]; exact dif_pos k.isLt

theorem vTile_pos (i : grid0.Coords) (x3 : Vec F S1x16x128x512 .bf16) (j : BitVec 32) (h : k0_chk1 j) :
    vTile i x3 j = View.ld x3 (Rect.unit (s := S1x16x128x512) (k0_off8 j) S1x1x128x512.size (k0_off8_inb j h)) := dif_pos h

/-! ## Reading a written buffer back -/

/-- The rectangle written last reads as its payload. -/
theorem ld_read_hit {sg : RefSig} {κ : Kind} {sp : Space} {s : Shape} {e : EltTy} {Val : EltTy → Type} (v : View sg κ sp s e)
    (f : v.ty.Contents Val) (r : Rect s) (w : r.shape.Idx → Val e) (L : List (View.Piece Val s e)) :
    View.ld (v.read Val (v.writes Val f (⟨r, w⟩ :: L))) r = w := by
  funext x
  exact View.read_writes_cons_emb v f r w L x

/-- A write elsewhere leaves a rectangle as it was. -/
theorem ld_read_skip {sg : RefSig} {κ : Kind} {sp : Space} {s : Shape} {e : EltTy} {Val : EltTy → Type} (v : View sg κ sp s e)
    (f : v.ty.Contents Val) (r : Rect s) (w : r.shape.Idx → Val e) (L : List (View.Piece Val s e)) (B : Rect s)
    (h : LoadRect.disj r B.toLoadRect = true) :
    View.ld (v.read Val (v.writes Val f (⟨r, w⟩ :: L))) B = View.ld (v.read Val (v.writes Val f L)) B := by
  funext x
  exact View.read_writes_cons_miss v f ⟨r, w⟩ L (B.idx x) (LoadRect.idx_not_mem_of_disj h x)

/-! ## One trip of the loop -/

/-- The buffers a trip touches: the keys, the values, the position columns and the queries as they are, the
    scores and the accumulators at the state's. -/
abbrev Trip (c : Dev nD) (arg5 : Memref sig .tc .vmem S1x8192x128 .bf16) (arg6 : Memref sig .tc .vmem S1x16x128x512 .bf16) (arg8 : Memref sig .tc .vmem S1x2x512x128 .bf16) (arg13 : Memref sig .tc .vmem S2x256x512 .bf16) (arg14 : Memref sig .tc .vmem S2x2x512x512 .f32) (arg15 : Memref sig .tc .vmem S2x128x512 .f32)
    (x2 : Vec F S1x8192x128 .bf16) (x3 : Vec F S1x16x128x512 .bf16) (x5 : Vec F S1x2x512x128 .bf16) (d13 : Vec F S2x256x512 .bf16) (s : St F) : sProp 𝕄 :=
  iprop(owns (c : Thread nD τ) arg5 fullShare x2 ∗ owns (c : Thread nD τ) arg6 fullShare x3 ∗ owns (c : Thread nD τ) arg8 fullShare x5
    ∗ owns (c : Thread nD τ) arg13 fullShare d13
    ∗ (∃ d14, owns (c : Thread nD τ) arg14 fullShare d14 ∗ ⌜View.ld d14 rS10 = s.s0 ∧ View.ld d14 rS11 = s.s1⌝)
    ∗ (∃ d15, owns (c : Thread nD τ) arg15 fullShare d15 ∗ ⌜View.ld d15 rA0 = s.a0 ∧ View.ld d15 rA1 = s.a1⌝))

set_option maxHeartbeats 4000000 in
/-- One trip's region takes the state to the next. -/
theorem trip (c : Dev nD) (E : Set ℕ) (i : grid0.Coords) (arg3 : Memref sig .tc .smem S8 .f32) (harg3 : arg3.IsWhole) (arg4 : Memref sig .tc .vmem S1x1x128x512 .bf16) (harg4 : arg4.IsWhole) (arg5 : Memref sig .tc .vmem S1x8192x128 .bf16) (harg5 : arg5.IsWhole) (arg6 : Memref sig .tc .vmem S1x16x128x512 .bf16) (harg6 : arg6.IsWhole) (arg7 : Memref sig .tc .vmem S1x128x512 .bf16) (harg7 : arg7.IsWhole) (arg8 : Memref sig .tc .vmem S1x2x512x128 .bf16) (harg8 : arg8.IsWhole) (arg9 : Memref sig .tc .vmem S512x512 .f32) (harg9 : arg9.IsWhole) (arg10 : Memref sig .tc .vmem S4x64 .f32) (harg10 : arg10.IsWhole) (arg11 : Memref sig .tc .vmem S128x1 .f32) (harg11 : arg11.IsWhole) (arg12 : Memref sig .tc .vmem S1x512x128 .bf16) (harg12 : arg12.IsWhole) (arg13 : Memref sig .tc .vmem S2x256x512 .bf16) (harg13 : arg13.IsWhole) (arg14 : Memref sig .tc .vmem S2x2x512x512 .f32) (harg14 : arg14.IsWhole) (arg15 : Memref sig .tc .vmem S2x128x512 .f32) (harg15 : arg15.IsWhole)
    (v1 : Elt F .f32) (v55 : BitVec 32) (v74 : FVec F S1x512 .f32) (v82 : FVec F S1x512 .f32) (v90 : FVec F S128x512 .bf16) (v93 : FVec F S1x512 .f32) (v106 : FVec F S1x512 .f32) (v119 : FVec F S1x512 .f32) (v121 : FVec F S1x512 .f32) (v128 : FVec F S512x512 .f32) (v129 : FVec F S1x512 .f32) (v130 : FVec F S512 .f32)
    (x2 : Vec F S1x8192x128 .bf16) (x3 : Vec F S1x16x128x512 .bf16) (x5 : Vec F S1x2x512x128 .bf16) (d13 : Vec F S2x256x512 .bf16)
    (k : Fin k0_t1_loop.trips) (s : St F) (hw : k0_chk1 s.j) :
    Trip c arg5 arg6 arg8 arg13 arg14 arg15 x2 x3 x5 d13 s
      ⊢ wp frame (wpE (defs₀ (F := F)) Variants.none c none) E
          (k0_t1_body (F := F) i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) v1 v55 v74 v82 v90 v93 v106 v119 v121 v128 v129 v130 k s.carry)
          (fun r => iprop(∃ e13, ⌜r = (step i v1 x2 x3 x5 (View.ld d13 rQ0) (View.ld d13 rQ1) k s).carry ∧ View.ld e13 rQ0 = View.ld d13 rQ0 ∧ View.ld e13 rQ1 = View.ld d13 rQ1⌝
            ∗ Trip c arg5 arg6 arg8 arg13 arg14 arg15 x2 x3 x5 e13 (step i v1 x2 x3 x5 (View.ld d13 rQ0) (View.ld d13 rQ1) k s))) := by
  obtain ⟨m0, l0, m1, l1, t0, t1, j, s0, s1, a0, a1⟩ := s
  unfold Trip St.carry k0_t1_body
  dsimp only at hw ⊢
  simp only [k0_part1_eq_skeleton, k0_part2_eq_skeleton, k0_part3_eq_skeleton, k0_part4_eq_skeleton, k0_part5_eq_skeleton]
  unfold owns
  iintro ⟨⟨%f5, %hf5, H5⟩, ⟨%f6, %hf6, H6⟩, ⟨%f8, %hf8, H8⟩, ⟨%f13, %hf13, H13⟩, ⟨%d14, ⟨%f14, %hf14, H14⟩, %hs⟩, ⟨%d15, ⟨%f15, %hf15, H15⟩, %ha⟩⟩
  subst hf5 hf6 hf8 hf13 hf14 hf15
  obtain ⟨rfl, rfl⟩ := hs
  obtain ⟨rfl, rfl⟩ := ha
  sl_exec
  sl_step
  iexists (View.read (Elt F) arg13.view f13)
  isplitr
  · ipureintro
    refine ⟨?_, rfl, rfl⟩
    sl_unfold_run_names
    simp (disch := decide) only [↓ View.readCov_skip, ↓ View.readCov_cons_toLoadRect]
    simp only [View.readAt_eq_ld, step, half, half', vTile_pos i _ _ hw, keysA, posA, keysB, posB, valsA, wordA, wordB]
  isplitl [H5]
  · iexists f5; isplitr; · ipureintro; rfl
    iexact H5
  isplitl [H6]
  · iexists f6; isplitr; · ipureintro; rfl
    iexact H6
  isplitl [H8]
  · iexists f8; isplitr; · ipureintro; rfl
    iexact H8
  isplitl [H13]
  · iexists f13; isplitr; · ipureintro; rfl
    iexact H13
  isplitl [H14]
  · iexists (View.read (Elt F) arg14.view _)
    isplitl [H14]
    · iexists _; isplitr; swap; · iexact H14
      ipureintro; rfl
    · ipureintro
      sl_unfold_run_names
      refine ⟨?_, ?_⟩
      · refine (ld_read_skip _ _ _ _ _ _ (by decide)).trans ((ld_read_hit _ _ _ _ _).trans ?_)
        simp (disch := decide) only [↓ View.readCov_skip, ↓ View.readCov_cons_toLoadRect]
        simp only [View.readAt_eq_ld, step, half, half', vTile_pos i _ _ hw, keysA, posA, keysB, posB, valsA, wordA, wordB]
      · refine (ld_read_hit _ _ _ _ _).trans ?_
        simp (disch := decide) only [↓ View.readCov_skip, ↓ View.readCov_cons_toLoadRect]
        simp only [View.readAt_eq_ld, step, half, half', vTile_pos i _ _ hw, keysA, posA, keysB, posB, valsA, wordA, wordB]
  · iexists (View.read (Elt F) arg15.view _)
    isplitl [H15]
    · iexists _; isplitr; swap; · iexact H15
      ipureintro; rfl
    · ipureintro
      sl_unfold_run_names
      refine ⟨?_, ?_⟩
      · refine (ld_read_skip _ _ _ _ _ _ (by decide)).trans ((ld_read_hit _ _ _ _ _).trans ?_)
        simp (disch := decide) only [↓ View.readCov_skip, ↓ View.readCov_cons_toLoadRect]
        simp only [View.readAt_eq_ld, step, half, half', vTile_pos i _ _ hw, keysA, posA, keysB, posB, valsA, wordA, wordB]
      · refine (ld_read_hit _ _ _ _ _).trans ?_
        simp (disch := decide) only [↓ View.readCov_skip, ↓ View.readCov_cons_toLoadRect]
        simp only [View.readAt_eq_ld, step, half, half', vTile_pos i _ _ hw, keysA, posA, keysB, posB, valsA, wordA, wordB]

end Cert.AttnIdeal.Mix

end
-- ==== Proof.AttnIdealRun.lean ====
/- The attention call's body at a grid point, run across its loop, and the call's run and frame. -/
module

public import proofs.«01_k».proof.Proof.AttnIdealTrip
public import Idealize.ShloMosaic.Lib.Claim

@[expose] public section

set_option maxRecDepth 16384

noncomputable section

namespace Cert.AttnIdeal.Mix

open Cert.AttnIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Before the loop -/

abbrev rT : Rect S1x1x128x512 := Rect.unit (s := S1x1x128x512) ![0, 0, 0, 0] S1x1x128x512.size inb_S1x1x128x512_S1x1x128x512_0_0_0_0
abbrev rP : Rect S1x128x512 := Rect.unit (s := S1x128x512) ![0, 0, 0] S1x128x512.size inb_S1x128x512_S1x128x512_0_0_0

/-- The slope of the point's head. -/
def slope (i : grid0.Coords) (x0 : Vec F S8 .f32) : Elt F .f32 :=
  View.ld x0 (Rect.unit (s := S8) (k0_off1 i) S1.size (k0_off1_inb i)) (Shape.Idx.first (h := (by decide : 0 < S1.numel)))

/-- The two components' stacked queries, and the buffer that holds both. -/
def q0 (x1 : Vec F S1x1x128x512 .bf16) (x4 : Vec F S1x128x512 .bf16) : Vec F S1x256x512 .bf16 := k0_pay44 (View.ld x1 rT) (View.ld x4 rP)
def q1 (x1 : Vec F S1x1x128x512 .bf16) (x4 : Vec F S1x128x512 .bf16) : Vec F S1x256x512 .bf16 := k0_pay45 (View.ld x1 rT) (View.ld x4 rP)
def qq (x1 : Vec F S1x1x128x512 .bf16) (x4 : Vec F S1x128x512 .bf16) : Vec F S2x256x512 .bf16 :=
  View.canon [⟨rQ1, q1 x1 x4⟩, ⟨rQ0, q0 x1 x4⟩]
/-- Their upper halves, without the position rows. -/
def qt0 (x1 : Vec F S1x1x128x512 .bf16) (x4 : Vec F S1x128x512 .bf16) : Vec F S1x128x512 .bf16 :=
  View.ld (View.canon [⟨rQ0, q0 x1 x4⟩]) (Rect.unit (s := S2x256x512) ![0, 0, 0] S1x128x512.size inb_S2x256x512_S1x128x512_0_0_0)
def qt1 (x1 : Vec F S1x1x128x512 .bf16) (x4 : Vec F S1x128x512 .bf16) : Vec F S1x128x512 .bf16 :=
  View.ld (qq x1 x4) (Rect.unit (s := S2x256x512) ![1, 0, 0] S1x128x512.size inb_S2x256x512_S1x128x512_1_0_0)

/-- The keys of the query tile's own tile, its values, and the keys and position columns of the first other tile. -/
def keysD (i : grid0.Coords) (x2 : Vec F S1x8192x128 .bf16) : Vec F S1x512x128 .bf16 :=
  View.ld x2 (Rect.unit (s := S1x8192x128) (k0_off2 i) S1x512x128.size (k0_off2_inb i))
def valsD (i : grid0.Coords) (x3 : Vec F S1x16x128x512 .bf16) : Vec F S1x1x128x512 .bf16 :=
  View.ld x3 (Rect.unit (s := S1x16x128x512) (k0_off5 i) S1x1x128x512.size (k0_off5_inb i))
def keys0 (i : grid0.Coords) (x2 : Vec F S1x8192x128 .bf16) : Vec F S1x512x128 .bf16 :=
  View.ld x2 (Rect.unit (s := S1x8192x128) (k0_off3 i) S1x512x128.size (k0_off3_inb i))
def pos0 (i : grid0.Coords) (x5 : Vec F S1x2x512x128 .bf16) : Vec F S1x1x512x128 .bf16 :=
  View.ld x5 (Rect.unit (s := S1x2x512x128) (k0_off4 i) S1x1x512x128.size (k0_off4_inb i))
/-- The distances within a tile. -/
def dist (x6 : Vec F S512x512 .f32) : Vec F S512x512 .f32 :=
  View.ld x6 (Rect.unit (s := S512x512) ![0, 0] S512x512.size inb_S512x512_S512x512_0_0)

/-- The word of the first other tile. -/
def word0 (i : grid0.Coords) : BitVec 32 :=
  Scalar.addi 0#32 (Scalar.select (Scalar.cmpi .sle (BitVec.ofNat 32 (i 2).val) 0#32) 1#32 0#32)

/-- The state before the loop: the query tile's own tile accumulated, the first other tile scored. -/
def start (i : grid0.Coords) (x0 : Vec F S8 .f32) (x1 : Vec F S1x1x128x512 .bf16) (x2 : Vec F S1x8192x128 .bf16) (x3 : Vec F S1x16x128x512 .bf16) (x4 : Vec F S1x128x512 .bf16) (x5 : Vec F S1x2x512x128 .bf16) (x6 : Vec F S512x512 .f32) : St F where
  m0 := k0_pay66 (k0_pay47 (F := F)) (k0_pay53 (slope i x0) (keysD i x2) (dist x6) (qt0 x1 x4)) (k0_pay64 (BitVec.ofNat 32 (i 2).val) (slope i x0))
  l0 := k0_pay69 (k0_pay47 (F := F)) (k0_pay48 (F := F)) (k0_pay53 (slope i x0) (keysD i x2) (dist x6) (qt0 x1 x4)) (k0_pay64 (BitVec.ofNat 32 (i 2).val) (slope i x0)) (k0_pay52 (slope i x0) (keysD i x2) (dist x6) (qt0 x1 x4))
  m1 := k0_pay71 (k0_pay47 (F := F)) (k0_pay56 (slope i x0) (keysD i x2) (dist x6) (qt1 x1 x4)) (k0_pay64 (BitVec.ofNat 32 (i 2).val) (slope i x0))
  l1 := k0_pay76 (k0_pay74 (k0_pay47 (F := F)) (k0_pay48 (F := F)) (k0_pay56 (slope i x0) (keysD i x2) (dist x6) (qt1 x1 x4)) (k0_pay64 (BitVec.ofNat 32 (i 2).val) (slope i x0)))
    (k0_pay75 (k0_pay47 (F := F)) (k0_pay56 (slope i x0) (keysD i x2) (dist x6) (qt1 x1 x4)) (k0_pay64 (BitVec.ofNat 32 (i 2).val) (slope i x0)) (k0_pay55 (slope i x0) (keysD i x2) (dist x6) (qt1 x1 x4)))
  x0 := k0_pay60 (keys0 i x2) (pos0 i x5) (q0 x1 x4)
  x1 := k0_pay63 (keys0 i x2) (pos0 i x5) (q1 x1 x4)
  j := word0 i
  s0 := k0_pay59 (keys0 i x2) (pos0 i x5) (q0 x1 x4)
  s1 := k0_pay62 (keys0 i x2) (pos0 i x5) (q1 x1 x4)
  a0 := k0_pay70 (k0_pay47 (F := F)) (k0_pay53 (slope i x0) (keysD i x2) (dist x6) (qt0 x1 x4)) (k0_pay64 (BitVec.ofNat 32 (i 2).val) (slope i x0)) (valsD i x3) (k0_pay52 (slope i x0) (keysD i x2) (dist x6) (qt0 x1 x4)) (View.ld (k0_pay46 (F := F)) rA0)
  a1 := k0_pay77 (k0_pay65 (valsD i x3)) (k0_pay72 (k0_pay47 (F := F)) (k0_pay56 (slope i x0) (keysD i x2) (dist x6) (qt1 x1 x4)) (k0_pay64 (BitVec.ofNat 32 (i 2).val) (slope i x0)))
    (k0_pay73 (k0_pay47 (F := F)) (k0_pay56 (slope i x0) (keysD i x2) (dist x6) (qt1 x1 x4)) (k0_pay64 (BitVec.ofNat 32 (i 2).val) (slope i x0)) (k0_pay55 (slope i x0) (keysD i x2) (dist x6) (qt1 x1 x4))) (View.ld (k0_pay46 (F := F)) rA1)

/-- What the body stores at the end: the last tile accumulated, the two components combined, the heads' norm taken. -/
def result (i : grid0.Coords) (sl : Elt F .f32) (x3 : Vec F S1x16x128x512 .bf16) (x7 : Vec F S4x64 .f32) (x8 : Vec F S128x1 .f32) (s : St F) : Vec F S1x512x128 .bf16 :=
  k0_pay1 (k0_pay91 (k0_pay84 (BitVec.ofNat 32 (i 2).val) sl s.m0 s.l0 s.x0 s.j s.s0)
    (k0_pay89 s.m1 s.l1 s.x1 (k0_pay79 (BitVec.ofNat 32 (i 2).val) sl s.j) s.s1)
    (View.ld x7 (Rect.unit (s := S4x64) ![0, 0] S4x64.size inb_S4x64_S4x64_0_0))
    (k0_pay85 (k0_pay80 (vTile i x3 s.j)) (k0_pay82 (BitVec.ofNat 32 (i 2).val) sl s.m0 s.x0 s.j) (k0_pay83 (BitVec.ofNat 32 (i 2).val) sl s.m0 s.x0 s.j s.s0) s.a0)
    (k0_pay90 s.m1 s.x1 (k0_pay79 (BitVec.ofNat 32 (i 2).val) sl s.j) (k0_pay80 (vTile i x3 s.j)) s.s1 s.a1)
    (View.ld x8 (Rect.unit (s := S128x1) ![0, 0] S128x1.size inb_S128x1_S128x1_0_0)))

/-- The output block of a point, from the input blocks. -/
def out0_9 (i : grid0.Coords) (x0 : Vec F S8 .f32) (x1 : Vec F S1x1x128x512 .bf16) (x2 : Vec F S1x8192x128 .bf16) (x3 : Vec F S1x16x128x512 .bf16) (x4 : Vec F S1x128x512 .bf16) (x5 : Vec F S1x2x512x128 .bf16) (x6 : Vec F S512x512 .f32) (x7 : Vec F S4x64 .f32) (x8 : Vec F S128x1 .f32) : Vec F S1x512x128 .bf16 :=
  View.canon [⟨(Rect.unit (s := S1x512x128) ![0, 0, 0] S1x512x128.size inb_S1x512x128_S1x512x128_0_0_0),
    result i (slope i x0) x3 x7 x8 (stAt i (slope i x0) x2 x3 x5 (q0 x1 x4) (q1 x1 x4) (start i x0 x1 x2 x3 x4 x5 x6) k0_t1_loop.trips)⟩]

theorem start_x0 (i : grid0.Coords) (x0 : Vec F S8 .f32) (x1 : Vec F S1x1x128x512 .bf16) (x2 : Vec F S1x8192x128 .bf16) (x3 : Vec F S1x16x128x512 .bf16) (x4 : Vec F S1x128x512 .bf16) (x5 : Vec F S1x2x512x128 .bf16) (x6 : Vec F S512x512 .f32) :
    (start i x0 x1 x2 x3 x4 x5 x6).x0 = k0_pay60 (keys0 i x2) (pos0 i x5) (q0 x1 x4) := by
  delta start; dsimp only
theorem start_x1 (i : grid0.Coords) (x0 : Vec F S8 .f32) (x1 : Vec F S1x1x128x512 .bf16) (x2 : Vec F S1x8192x128 .bf16) (x3 : Vec F S1x16x128x512 .bf16) (x4 : Vec F S1x128x512 .bf16) (x5 : Vec F S1x2x512x128 .bf16) (x6 : Vec F S512x512 .f32) :
    (start i x0 x1 x2 x3 x4 x5 x6).x1 = k0_pay63 (keys0 i x2) (pos0 i x5) (q1 x1 x4) := by
  delta start; dsimp only

theorem carry_eq {s : St F} {m0 l0 m1 l1 x0 x1 : FVec F S1x512 .f32} {j : BitVec 32} (h1 : m0 = s.m0) (h2 : l0 = s.l0) (h3 : m1 = s.m1) (h4 : l1 = s.l1)
    (h5 : x0 = s.x0) (h6 : x1 = s.x1) (h7 : j = s.j) : (m0, l0, m1, l1, x0, x1, j) = s.carry := by
  subst h1 h2 h3 h4 h5 h6 h7; rfl

theorem cover0_9 (p0 : Vec F S1x512x128 .bf16) (y : S1x512x128.Idx) :
    ∃ pc ∈ ([⟨(Rect.unit (s := S1x512x128) ![0, 0, 0] S1x512x128.size inb_S1x512x128_S1x512x128_0_0_0), p0⟩] : List (View.Piece (Elt F) S1x512x128 .bf16)), y ∈ pc.1.set :=
  View.cover_of_tiled [⟨(Rect.unit (s := S1x512x128) ![0, 0, 0] S1x512x128.size inb_S1x512x128_S1x512x128_0_0_0), p0⟩] S1x512x128.size (by rfl) y

/-! ## Every tile number met is one -/

theorem chk_word0 : ∀ i : grid0.Coords, k0_chk1 (word0 i) := by
  have h : ∀ t : Fin 16, k0_chk1 (Scalar.addi 0#32 (Scalar.select (Scalar.cmpi .sle (BitVec.ofNat 32 t.val) 0#32) 1#32 0#32)) := by decide +kernel
  exact fun i => h (i 2)
theorem chk_wordB : ∀ (i : grid0.Coords) (k : Fin k0_t1_loop.trips), k0_chk1 (wordB i k) := by
  have h : ∀ (t : Fin 16) (k : Fin k0_t1_loop.trips), k0_chk1 (Scalar.addi (Scalar.addi 2#32 (Scalar.muli 2#32 (Scf.iv 0#32 1#32 k)))
    (Scalar.select (Scalar.cmpi .sge (Scalar.addi 2#32 (Scalar.muli 2#32 (Scf.iv 0#32 1#32 k))) (BitVec.ofNat 32 t.val)) 1#32 0#32)) := by decide +kernel
  exact fun i k => h (i 2) k
theorem chk_stAt (i : grid0.Coords) (sl : Elt F .f32) (x2 : Vec F S1x8192x128 .bf16) (x3 : Vec F S1x16x128x512 .bf16) (x5 : Vec F S1x2x512x128 .bf16)
    (q0 q1 : Vec F S1x256x512 .bf16) (s : St F) (hs : s.j = word0 i) : ∀ k, k ≤ k0_t1_loop.trips → k0_chk1 (stAt i sl x2 x3 x5 q0 q1 s k).j
  | 0, _ => by rw [stAt.eq_1, hs]; exact chk_word0 i
  | k + 1, h => by
    have h1 := stAt_succ i sl x2 x3 x5 q0 q1 s ⟨k, h⟩
    dsimp only at h1
    rw [h1]
    exact chk_wordB i ⟨k, h⟩

/-! ## The loop's invariant -/

/-- Before trip `k` the registers and the two scratch buffers are at the state's. -/
def inv (c : Dev nD) (i : grid0.Coords) (arg5 : Memref sig .tc .vmem S1x8192x128 .bf16) (arg6 : Memref sig .tc .vmem S1x16x128x512 .bf16) (arg8 : Memref sig .tc .vmem S1x2x512x128 .bf16) (arg13 : Memref sig .tc .vmem S2x256x512 .bf16) (arg14 : Memref sig .tc .vmem S2x2x512x512 .f32) (arg15 : Memref sig .tc .vmem S2x128x512 .f32)
    (sl : Elt F .f32) (x2 : Vec F S1x8192x128 .bf16) (x3 : Vec F S1x16x128x512 .bf16) (x5 : Vec F S1x2x512x128 .bf16) (qa qb : Vec F S1x256x512 .bf16) (s : St F) (k : ℕ)
    (acc : FVec F S1x512 .f32 × FVec F S1x512 .f32 × FVec F S1x512 .f32 × FVec F S1x512 .f32 × FVec F S1x512 .f32 × FVec F S1x512 .f32 × BitVec 32) : sProp 𝕄 :=
  iprop(∃ d13, ⌜acc = (stAt i sl x2 x3 x5 qa qb s k).carry ∧ View.ld d13 rQ0 = qa ∧ View.ld d13 rQ1 = qb⌝
    ∗ Trip c arg5 arg6 arg8 arg13 arg14 arg15 x2 x3 x5 d13 (stAt i sl x2 x3 x5 qa qb s k))

set_option maxHeartbeats 4000000 in
/-- A trip keeps the invariant. -/
theorem inv_step (c : Dev nD) (E : Set ℕ) (i : grid0.Coords) (arg3 : Memref sig .tc .smem S8 .f32) (harg3 : arg3.IsWhole) (arg4 : Memref sig .tc .vmem S1x1x128x512 .bf16) (harg4 : arg4.IsWhole) (arg5 : Memref sig .tc .vmem S1x8192x128 .bf16) (harg5 : arg5.IsWhole) (arg6 : Memref sig .tc .vmem S1x16x128x512 .bf16) (harg6 : arg6.IsWhole) (arg7 : Memref sig .tc .vmem S1x128x512 .bf16) (harg7 : arg7.IsWhole) (arg8 : Memref sig .tc .vmem S1x2x512x128 .bf16) (harg8 : arg8.IsWhole) (arg9 : Memref sig .tc .vmem S512x512 .f32) (harg9 : arg9.IsWhole) (arg10 : Memref sig .tc .vmem S4x64 .f32) (harg10 : arg10.IsWhole) (arg11 : Memref sig .tc .vmem S128x1 .f32) (harg11 : arg11.IsWhole) (arg12 : Memref sig .tc .vmem S1x512x128 .bf16) (harg12 : arg12.IsWhole) (arg13 : Memref sig .tc .vmem S2x256x512 .bf16) (harg13 : arg13.IsWhole) (arg14 : Memref sig .tc .vmem S2x2x512x512 .f32) (harg14 : arg14.IsWhole) (arg15 : Memref sig .tc .vmem S2x128x512 .f32) (harg15 : arg15.IsWhole)
    (v1 : Elt F .f32) (v55 : BitVec 32) (v74 : FVec F S1x512 .f32) (v82 : FVec F S1x512 .f32) (v90 : FVec F S128x512 .bf16) (v93 : FVec F S1x512 .f32) (v106 : FVec F S1x512 .f32) (v119 : FVec F S1x512 .f32) (v121 : FVec F S1x512 .f32) (v128 : FVec F S512x512 .f32) (v129 : FVec F S1x512 .f32) (v130 : FVec F S512 .f32)
    (x2 : Vec F S1x8192x128 .bf16) (x3 : Vec F S1x16x128x512 .bf16) (x5 : Vec F S1x2x512x128 .bf16) (qa qb : Vec F S1x256x512 .bf16) (s : St F) (hs : s.j = word0 i) (k : Fin k0_t1_loop.trips)
    (acc : FVec F S1x512 .f32 × FVec F S1x512 .f32 × FVec F S1x512 .f32 × FVec F S1x512 .f32 × FVec F S1x512 .f32 × FVec F S1x512 .f32 × BitVec 32) :
    inv c i arg5 arg6 arg8 arg13 arg14 arg15 v1 x2 x3 x5 qa qb s k.val acc
      ⊢ wp frame (wpE (defs₀ (F := F)) Variants.none c none) E
          (k0_t1_body (F := F) i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) v1 v55 v74 v82 v90 v93 v106 v119 v121 v128 v129 v130 k acc)
          (inv c i arg5 arg6 arg8 arg13 arg14 arg15 v1 x2 x3 x5 qa qb s (k.val + 1)) := by
  unfold inv
  iintro ⟨%d13, %h, HT⟩
  obtain ⟨h, ha, hb⟩ := h
  subst h ha hb
  rw [stAt_succ]
  iapply (trip c E i arg3 harg3 arg4 harg4 arg5 harg5 arg6 harg6 arg7 harg7 arg8 harg8 arg9 harg9 arg10 harg10 arg11 harg11 arg12 harg12 arg13 harg13 arg14 harg14 arg15 harg15 v1 v55 v74 v82 v90 v93 v106 v119 v121 v128 v129 v130 x2 x3 x5 d13 k _ (chk_stAt i v1 x2 x3 x5 _ _ s hs k.val k.isLt.le))
  iexact HT

set_option maxHeartbeats 4000000 in
/-- The kernel body on whole memrefs: the inputs as they were, the output at `out0_9` of them, the scratch at anything. -/
theorem sound_kernel (c : Dev nD) (E : Set ℕ) (i : grid0.Coords) (arg3 : Memref sig .tc .smem S8 .f32) (harg3 : arg3.IsWhole) (arg4 : Memref sig .tc .vmem S1x1x128x512 .bf16) (harg4 : arg4.IsWhole) (arg5 : Memref sig .tc .vmem S1x8192x128 .bf16) (harg5 : arg5.IsWhole) (arg6 : Memref sig .tc .vmem S1x16x128x512 .bf16) (harg6 : arg6.IsWhole) (arg7 : Memref sig .tc .vmem S1x128x512 .bf16) (harg7 : arg7.IsWhole) (arg8 : Memref sig .tc .vmem S1x2x512x128 .bf16) (harg8 : arg8.IsWhole) (arg9 : Memref sig .tc .vmem S512x512 .f32) (harg9 : arg9.IsWhole) (arg10 : Memref sig .tc .vmem S4x64 .f32) (harg10 : arg10.IsWhole) (arg11 : Memref sig .tc .vmem S128x1 .f32) (harg11 : arg11.IsWhole) (arg12 : Memref sig .tc .vmem S1x512x128 .bf16) (harg12 : arg12.IsWhole) (arg13 : Memref sig .tc .vmem S2x256x512 .bf16) (harg13 : arg13.IsWhole) (arg14 : Memref sig .tc .vmem S2x2x512x512 .f32) (harg14 : arg14.IsWhole) (arg15 : Memref sig .tc .vmem S2x128x512 .f32) (harg15 : arg15.IsWhole)
    (x0 : Vec F S8 .f32) (x1 : Vec F S1x1x128x512 .bf16) (x2 : Vec F S1x8192x128 .bf16) (x3 : Vec F S1x16x128x512 .bf16) (x4 : Vec F S1x128x512 .bf16) (x5 : Vec F S1x2x512x128 .bf16) (x6 : Vec F S512x512 .f32) (x7 : Vec F S4x64 .f32) (x8 : Vec F S128x1 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
        ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
          ∗ owns (c : Thread nD τ) arg12 fullShare (out0_9 i x0 x1 x2 x3 x4 x5 x6 x7 x8) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13 arg14 harg14 arg15 harg15) K := by
  simp only [cc0_diff_attn_eq_skeleton]; unfold cc0_diff_attn_skel
  simp only [k0_part6_eq_skeleton, k0_part7_eq_skeleton, k0_part8_eq_skeleton, k0_part9_eq_skeleton, k0_part10_eq_skeleton, k0_part11_eq_skeleton, k0_part12_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, Hk⟩
  subst hf3 hf4 hf5 hf6 hf7 hf8 hf9 hf10 hf11
  sl_exec
  sl_for (inv c i arg5 arg6 arg8 arg13 arg14 arg15 (slope i (View.read (Elt F) arg3.view f3)) (View.read (Elt F) arg5.view f5) (View.read (Elt F) arg6.view f6) (View.read (Elt F) arg8.view f8)
      (q0 (View.read (Elt F) arg4.view f4) (View.read (Elt F) arg7.view f7)) (q1 (View.read (Elt F) arg4.view f4) (View.read (Elt F) arg7.view f7))
      (start i (View.read (Elt F) arg3.view f3) (View.read (Elt F) arg4.view f4) (View.read (Elt F) arg5.view f5) (View.read (Elt F) arg6.view f6) (View.read (Elt F) arg7.view f7) (View.read (Elt F) arg8.view f8) (View.read (Elt F) arg9.view f9))) $$ [H5 H6 H8 H13 H14 H15]
  case region =>
    intro k acc
    exact inv_step c E i arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ rfl k acc
  · unfold inv Trip owns
    iexists _
    isplitr; swap
    · isplitl [H5]
      · iexists f5; isplitr; · ipureintro; rfl
        iexact H5
      isplitl [H6]
      · iexists f6; isplitr; · ipureintro; rfl
        iexact H6
      isplitl [H8]
      · iexists f8; isplitr; · ipureintro; rfl
        iexact H8
      isplitl [H13]
      · iexists _; isplitr; swap; · iexact H13
        ipureintro; rfl
      isplitl [H14]
      · iexists (View.read (Elt F) arg14.view _)
        isplitl [H14]
        · iexists _; isplitr; swap; · iexact H14
          ipureintro; rfl
        · ipureintro
          sl_unfold_run_names
          refine ⟨?_, ?_⟩
          · refine (ld_read_skip _ _ _ _ _ _ (by decide)).trans ((ld_read_hit _ _ _ _ _).trans ?_)
            simp (disch := decide) only [↓ View.readCov_skip, ↓ View.readCov_cons_toLoadRect, ↓ View.readCov_fill]
            simp only [View.readAt_eq_ld, stAt_zero, View.readCov_eq_canon']
            rfl
          · refine (ld_read_hit _ _ _ _ _).trans ?_
            simp (disch := decide) only [↓ View.readCov_skip, ↓ View.readCov_cons_toLoadRect, ↓ View.readCov_fill]
            simp only [View.readAt_eq_ld, stAt_zero, View.readCov_eq_canon']
            rfl
      · iexists (View.read (Elt F) arg15.view _)
        isplitl [H15]
        · iexists _; isplitr; swap; · iexact H15
          ipureintro; rfl
        · ipureintro
          sl_unfold_run_names
          refine ⟨?_, ?_⟩
          · refine (ld_read_skip _ _ _ _ _ _ (by decide)).trans ((ld_read_hit _ _ _ _ _).trans ?_)
            simp (disch := decide) only [↓ View.readCov_skip, ↓ View.readCov_cons_toLoadRect, ↓ View.readCov_fill]
            simp only [View.readAt_eq_ld, stAt_zero, View.readCov_eq_canon']
            rfl
          · refine (ld_read_hit _ _ _ _ _).trans ?_
            simp (disch := decide) only [↓ View.readCov_skip, ↓ View.readCov_cons_toLoadRect, ↓ View.readCov_fill]
            simp only [View.readAt_eq_ld, stAt_zero, View.readCov_eq_canon']
            rfl
    · ipureintro
      sl_unfold_run_names
      refine ⟨?_, ?_, ?_⟩
      · simp (disch := decide) only [↓ View.readCov_skip, ↓ View.readCov_cons_toLoadRect, ↓ View.readCov_fill]
        simp only [View.readAt_eq_ld, stAt_zero, View.readCov_eq_canon']
        refine carry_eq ?_ ?_ ?_ ?_ ?_ ?_ ?_
        · rfl
        · rfl
        · rfl
        · rfl
        · rw [start_x0]; unfold keys0 pos0 q0; rfl
        · rw [start_x1]; unfold keys0 pos0 q1; rfl
        · rfl
      · refine (ld_read_skip _ _ _ _ _ _ (by decide)).trans ((ld_read_hit _ _ _ _ _).trans ?_)
        rfl
      · refine (ld_read_hit _ _ _ _ _).trans ?_
        rfl
  iintro %acc HI
  unfold inv
  icases HI with ⟨%e13, %h, HT⟩
  obtain ⟨h, ha, hb⟩ := h
  have hw := chk_stAt i (slope i (View.read (Elt F) arg3.view f3)) (View.read (Elt F) arg5.view f5) (View.read (Elt F) arg6.view f6) (View.read (Elt F) arg8.view f8)
    (q0 (View.read (Elt F) arg4.view f4) (View.read (Elt F) arg7.view f7)) (q1 (View.read (Elt F) arg4.view f4) (View.read (Elt F) arg7.view f7))
    (start i (View.read (Elt F) arg3.view f3) (View.read (Elt F) arg4.view f4) (View.read (Elt F) arg5.view f5) (View.read (Elt F) arg6.view f6) (View.read (Elt F) arg7.view f7) (View.read (Elt F) arg8.view f8) (View.read (Elt F) arg9.view f9)) rfl k0_t1_loop.trips le_rfl
  have ho : out0_9 i (View.read (Elt F) arg3.view f3) (View.read (Elt F) arg4.view f4) (View.read (Elt F) arg5.view f5) (View.read (Elt F) arg6.view f6) (View.read (Elt F) arg7.view f7) (View.read (Elt F) arg8.view f8) (View.read (Elt F) arg9.view f9) (View.read (Elt F) arg10.view f10) (View.read (Elt F) arg11.view f11)
    = View.canon [⟨(Rect.unit (s := S1x512x128) ![0, 0, 0] S1x512x128.size inb_S1x512x128_S1x512x128_0_0_0), result i (slope i (View.read (Elt F) arg3.view f3)) (View.read (Elt F) arg6.view f6) (View.read (Elt F) arg10.view f10) (View.read (Elt F) arg11.view f11) (stAt i (slope i (View.read (Elt F) arg3.view f3)) (View.read (Elt F) arg5.view f5) (View.read (Elt F) arg6.view f6) (View.read (Elt F) arg8.view f8)
    (q0 (View.read (Elt F) arg4.view f4) (View.read (Elt F) arg7.view f7)) (q1 (View.read (Elt F) arg4.view f4) (View.read (Elt F) arg7.view f7))
    (start i (View.read (Elt F) arg3.view f3) (View.read (Elt F) arg4.view f4) (View.read (Elt F) arg5.view f5) (View.read (Elt F) arg6.view f6) (View.read (Elt F) arg7.view f7) (View.read (Elt F) arg8.view f8) (View.read (Elt F) arg9.view f9)) k0_t1_loop.trips)⟩] := rfl
  have hT : Scf.trips k0_t1_loop.lb k0_t1_loop.ub k0_t1_loop.st = k0_t1_loop.trips := rfl
  rw [hT] at h ⊢
  generalize stAt (F := F) i _ _ _ _ _ _ _ _ = s at h hw ho ⊢
  rw [ho]
  obtain ⟨m0, l0, m1, l1, t0, t1, j, s0, s1, a0, a1⟩ := s
  unfold St.carry at h
  dsimp only at h hw
  subst h
  unfold Trip owns
  icases HT with ⟨⟨%g5, %hg5, H5⟩, ⟨%g6, %hg6, H6⟩, ⟨%g8, %hg8, H8⟩, ⟨%g13, %hg13, H13⟩, ⟨%d14, ⟨%g14, %hg14, H14⟩, %hs⟩, ⟨%d15, ⟨%g15, %hg15, H15⟩, %ha⟩⟩
  subst hg14 hg15
  obtain ⟨hs0, hs1⟩ := hs
  obtain ⟨ha0, ha1⟩ := ha
  dsimp only at hs0 hs1 ha0 ha1
  subst hs0 hs1 ha0 ha1
  have hw2 : k0_chk2 j := hw
  sl_exec
  sl_step
  iapply Hk
  isplitl [H3]
  · iexists f3; isplitr; · ipureintro; rfl
    iexact H3
  isplitl [H4]
  · iexists f4; isplitr; · ipureintro; rfl
    iexact H4
  isplitl [H5]
  · iexists g5; isplitr; · ipureintro; exact hg5
    iexact H5
  isplitl [H6]
  · iexists g6; isplitr; · ipureintro; exact hg6
    iexact H6
  isplitl [H7]
  · iexists f7; isplitr; · ipureintro; rfl
    iexact H7
  isplitl [H8]
  · iexists g8; isplitr; · ipureintro; exact hg8
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr; swap; · iexact H12
    ipureintro
    refine (View.read_writes_eq_canon _ _ _ (cover0_9 _)).trans ?_
    sl_unfold_run_names
    simp (disch := decide) only [↓ View.readCov_skip, ↓ View.readCov_cons_toLoadRect]
    simp only [View.readAt_eq_ld]
    unfold result
    rw [vTile_pos i _ _ hw, ← hg6]
    clear ho hg5 hg8 hg13 hg6 ha hb hT
    rfl
  isplitl [H13]
  · iexists _; iexists _; isplitr; swap; · iexact H13
    ipureintro; rfl
  isplitl [H14]
  · iexists _; iexists _; isplitr; swap; · iexact H14
    ipureintro; rfl
  · iexists _; iexists _; isplitr; swap; · iexact H15
    ipureintro; rfl

/-! ## The call's proof data, its run and its frame -/

variable (m : (ℓ : Loc nD τ sig) → Buf (Elt F) ℓ) (ρ : Dev nD → PrngReg)

/-- What every window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (grid0.coords t) (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (grid0.coords t) (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- The scratch buffers, as the body's memrefs. -/
theorem scratch_eq (c : Dev nD) :
    (Pipeline.scopedRest (Ix := Unit) (Name := ℕ) (U := UR sig nD τ) (Lvl := ℕ) (Val := Elt F) spec0 c : sProp 𝕄)
      = iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) := by
  rw [scopedRest0_eq]; simp only [owns_whole]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9]
  unfold Pipeline.ΦA
  rw [scratch_eq]
  iintro ⟨⟨⟨S0, S1, S2⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [S0]; · iexact S0
  isplitl [S1]; · iexact S1
  isplitl [S2]; · iexact S2
  iintro ⟨H0, H1, H2, H3, H4, H5, H6, H7, H8, H9, S0, S1, S2⟩
  isplitl [S0 S1 S2 Hp]
  · isplitl [S0 S1 S2]
    · isplitl [S0]; · iexact S0
      isplitl [S1]; · iexact S1
      iexact S2
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array ends at what the proof data give, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.AttnIdeal.Mix

end
-- ==== Proof.AttnMath.lean ====
/- The running softmax over the reals. A column keeps a maximum `m`, a sum `l` and a weighted sum `a` scaled by
   `2^(-m)`; taking in one more tile of scores adds the tile's sums, whatever the maxima are. -/
module

public import Idealize.ShloMosaic.Lib.Claim
public import Idealize.ShloMosaic.Lib.Pointwise
public import Idealize.ShloMosaic.Lib.Pipeline.ValueKit

@[expose] public section

noncomputable section

namespace Cert.Softmax

open Idealize.ShloMosaic

/-- The maximum of finitely many reals (at least one), starting from minus infinity, is real. -/
theorem fold_max_real {n : Nat} (hn : 0 < n) (f : Fin n → EReal) (g : Fin n → ℝ) (h : ∀ k, f k = (g k : EReal)) :
    ∃ X : ℝ, Finset.fold max (⊥ : EReal) f Finset.univ = (X : EReal) := by
  have h1 : Finset.fold max (⊥ : EReal) f Finset.univ < ⊤ :=
    (Finset.fold_max_lt (c := ⊤)).mpr ⟨bot_lt_top, fun k _ => by rw [h k]; exact EReal.coe_lt_top _⟩
  have h2 : (⊥ : EReal) < Finset.fold max (⊥ : EReal) f Finset.univ :=
    (Finset.lt_fold_max (c := ⊥)).mpr (Or.inr ⟨⟨0, hn⟩, Finset.mem_univ _, by rw [h]; exact EReal.bot_lt_coe _⟩)
  exact ⟨_, (EReal.coe_toReal h1.ne h2.ne').symm⟩

theorem coe_sum {n : Nat} (f : Fin n → ℝ) : ((∑ k, f k : ℝ) : EReal) = ∑ k, (f k : EReal) := by
  induction n with
  | zero => simp
  | succ n ih => rw [Fin.sum_univ_succ, Fin.sum_univ_succ, EReal.coe_add, ih]

theorem exp2_real (r : ℝ) : Ideal.exp2 (r : EReal) = (((2 : ℝ) ^ r : ℝ) : EReal) := rfl

/-- What a column's state stands for: nothing yet, or sums `L` and `A` scaled by a power of two of the maximum. -/
def Holds (m l a : EReal) (L A : ℝ) : Prop :=
  (m = ⊥ ∧ l = 0 ∧ a = 0 ∧ L = 0 ∧ A = 0)
    ∨ ∃ M : ℝ, m = (M : EReal) ∧ l = (((2 : ℝ) ^ (-M) * L : ℝ) : EReal) ∧ a = (((2 : ℝ) ^ (-M) * A : ℝ) : EReal)

theorem holds_start : Holds ⊥ 0 0 0 0 := Or.inl ⟨rfl, rfl, rfl, rfl, rfl⟩

theorem max_real (m x : EReal) (c X : ℝ) (hm : m = ⊥ ∨ ∃ M : ℝ, m = (M : EReal)) (hx : x = (X : EReal)) :
    ∃ N : ℝ, max m (x - (c : EReal)) = (N : EReal) := by
  subst hx
  rcases hm with rfl | ⟨M, rfl⟩
  · exact ⟨X - c, by rw [← EReal.coe_sub]; exact max_eq_right bot_le⟩
  · exact ⟨max M (X - c), by rw [← EReal.coe_sub, ← EReal.coe_strictMono.monotone.map_max]⟩

/-- One more tile of `n` scores `s r = σ r + c` and values `v r`. -/
theorem holds_step {n : Nat} {m l a x : EReal} {L A c X : ℝ} (h : Holds m l a L A) (hx : x = (X : EReal))
    (s v : Fin n → EReal) (σ ν : Fin n → ℝ) (hs : ∀ r, s r = ((σ r + c : ℝ) : EReal)) (hv : ∀ r, v r = (ν r : EReal)) :
    Holds (max m (x - (c : EReal)))
      (Ideal.exp2 (m - max m (x - (c : EReal))) * l + ∑ r, Ideal.exp2 (s r - (max m (x - (c : EReal)) + (c : EReal))))
      (Ideal.exp2 (m - max m (x - (c : EReal))) * a + ∑ r, v r * Ideal.exp2 (s r - (max m (x - (c : EReal)) + (c : EReal))))
      (L + ∑ r, (2 : ℝ) ^ σ r) (A + ∑ r, ν r * (2 : ℝ) ^ σ r) := by
  obtain ⟨N, hN⟩ := max_real m x c X (by rcases h with h | ⟨M, h, _⟩; exacts [.inl h.1, .inr ⟨M, h⟩]) hx
  rw [hN]
  have two : (0 : ℝ) < 2 := by norm_num
  have e1 : ∀ r, Ideal.exp2 (s r - ((N : EReal) + (c : EReal))) = (((2 : ℝ) ^ (-N) * (2 : ℝ) ^ σ r : ℝ) : EReal) := by
    intro r
    rw [hs r, ← EReal.coe_add, ← EReal.coe_sub, exp2_real, ← Real.rpow_add two]
    congr 2; ring
  have e2 : ∀ r, v r * Ideal.exp2 (s r - ((N : EReal) + (c : EReal))) = (((2 : ℝ) ^ (-N) * (ν r * (2 : ℝ) ^ σ r) : ℝ) : EReal) := by
    intro r
    rw [e1 r, hv r, ← EReal.coe_mul]
    congr 1; ring
  rw [Finset.sum_congr rfl fun r _ => e1 r, Finset.sum_congr rfl fun r _ => e2 r, ← coe_sum, ← coe_sum,
    ← Finset.mul_sum, ← Finset.mul_sum]
  refine Or.inr ⟨N, rfl, ?_, ?_⟩
  · rcases h with ⟨rfl, rfl, rfl, rfl, rfl⟩ | ⟨M, rfl, rfl, rfl⟩
    · simp
    · rw [← EReal.coe_sub, exp2_real, ← EReal.coe_mul, ← EReal.coe_add, ← mul_assoc, ← Real.rpow_add two, mul_add]
      congr 4; ring
  · rcases h with ⟨rfl, rfl, rfl, rfl, rfl⟩ | ⟨M, rfl, rfl, rfl⟩
    · simp
    · rw [← EReal.coe_sub, exp2_real, ← EReal.coe_mul, ← EReal.coe_add, ← mul_assoc, ← Real.rpow_add two, mul_add]
      congr 4; ring

/-- The quotient of a column's two sums does not see the maximum. -/
theorem holds_quot {m l a : EReal} {L A : ℝ} (h : Holds m l a L A) (hL : 0 < L) : Ideal.div a l = ((A / L : ℝ) : EReal) := by
  rcases h with ⟨_, _, _, rfl, _⟩ | ⟨M, rfl, rfl, rfl⟩
  · exact absurd hL (lt_irrefl _)
  · have hp : (0 : ℝ) < 2 ^ (-M) := Real.rpow_pos_of_pos (by norm_num) _
    rw [Ideal.div, if_neg (by exact_mod_cast (mul_pos hp hL).ne'), ← EReal.coe_inv, ← EReal.coe_mul]
    congr 1
    field_simp

end Cert.Softmax
-- ==== Proof.AttnConst.lean ====
/- The literals of the attention call and of its reference, as extended reals. -/
module

public import Idealize.ShloMosaic.Lib.Claim
public import Idealize.ShloMosaic.Lib.Pointwise

@[expose] public section

noncomputable section

namespace Cert.Softmax

open Idealize.ShloMosaic

theorem lit_bot : Ideal.ofBits .f32 0xFF800000#32 = (⊥ : EReal) := by
  simp [Ideal.ofBits, Ideal.ieee, -EReal.coe_mul]
theorem lit_top : Ideal.ofBits .f32 0x7F800000#32 = (⊤ : EReal) := by
  simp [Ideal.ofBits, Ideal.ieee, -EReal.coe_mul]
theorem lit_two : Ideal.ofBits .f32 0x40000000#32 = ((2 : ℝ) : EReal) := by
  simp [Ideal.ofBits, Ideal.ieee, -EReal.coe_mul]; norm_num
theorem lit_five : Ideal.ofBits .f32 0x40A00000#32 = ((5 : ℝ) : EReal) := by
  simp [Ideal.ofBits, Ideal.ieee, -EReal.coe_mul]; norm_num
theorem lit_eighth : Ideal.ofBits .f32 0x3E000000#32 = ((1 / 8 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num
theorem lit_lam : Ideal.ofBits .f32 0x3EB60549#32 = ((11928905 / 33554432 : ℝ) : EReal) := by
  simp [Ideal.ofBits, Ideal.ieee, -EReal.coe_mul]; norm_num

end Cert.Softmax
-- ==== Proof.AttnPay.lean ====
/- The attention body's payloads, entry by entry over the extended reals: the scores of a tile, the three updates of
   the running softmax, and the combination at the end. The body repeats each of them for its two components and its
   two unrolled halves; the repeats are the same functions. -/
module

public import proofs.«01_k».proof.Proof.AttnIdealRun
public import proofs.«01_k».proof.Proof.AttnMath
public import proofs.«01_k».proof.Proof.AttnConst
public import Idealize.ShloMosaic.Lib.Claim
public import Idealize.ShloMosaic.Lib.Pointwise
public import Idealize.ShloMosaic.Lib.Pipeline.ValueKit

@[expose] public section

set_option maxRecDepth 16384

noncomputable section

namespace Cert.AttnIdeal.Mix

open Idealize.ShloMosaic Idealize.ShloMosaic.TcCoe Idealize.SL.Sem
open Cert.AttnIdeal Cert.AttnIdeal.Gen

/-! ## The updates -/

theorem pay66_at (m x : FVec Ideal S1x512 .f32) (cj : Ideal .f32) (p : Fin 512) :
    k0_pay66 (F := Ideal) m x cj (ix2 0 p) = max (m (ix2 0 p)) (x (ix2 0 p) - cj) := by
  pointwise [k0_pay66]

theorem pay69_at (m l x : FVec Ideal S1x512 .f32) (cj : Ideal .f32) (s : FVec Ideal S1x1x512x512 .f32) (p : Fin 512) :
    k0_pay69 (F := Ideal) m l x cj s (ix2 0 p)
      = Ideal.exp2 (m (ix2 0 p) - max (m (ix2 0 p)) (x (ix2 0 p) - cj)) * l (ix2 0 p)
        + ∑ r : Fin 512, Ideal.exp2 (s (ix4 0 0 r p) - (max (m (ix2 0 p)) (x (ix2 0 p) - cj) + cj)) := by
  pointwise [k0_pay69, k0_pay68, k0_pay67, k0_pay66]
  rfl

theorem pay70_at (m x : FVec Ideal S1x512 .f32) (cj : Ideal .f32) (vt : FVec Ideal S1x1x128x512 .bf16) (s : FVec Ideal S1x1x512x512 .f32)
    (a : FVec Ideal S1x128x512 .f32) (e : Fin 128) (p : Fin 512) :
    k0_pay70 (F := Ideal) m x cj vt s a (ix3 0 e p)
      = Ideal.exp2 (m (ix2 0 p) - max (m (ix2 0 p)) (x (ix2 0 p) - cj)) * a (ix3 0 e p)
        + ∑ r : Fin 512, vt (ix4 0 0 e r) * Ideal.exp2 (s (ix4 0 0 r p) - (max (m (ix2 0 p)) (x (ix2 0 p) - cj) + cj)) := by
  pointwise [k0_pay70, k0_pay68, k0_pay67, k0_pay66, k0_pay65]
  rfl

/-! ## The scores -/

theorem pay4_at (ks : FVec Ideal S1x512x128 .bf16) (ps : FVec Ideal S1x1x512x128 .bf16) (q : FVec Ideal S1x256x512 .bf16) (r p : Fin 512) :
    k0_pay4 (F := Ideal) ks ps q (ix4 0 0 r p)
      = (∑ k : Fin 128, ks (ix3 0 r k) * q (ix3 0 ⟨k, by omega⟩ p)) + ∑ k : Fin 128, ps (ix4 0 0 r k) * q (ix3 0 ⟨128 + k, by omega⟩ p) := by
  pointwise [k0_pay4, k0_pay3, k0_pay2]

theorem pay5_at (ks : FVec Ideal S1x512x128 .bf16) (ps : FVec Ideal S1x1x512x128 .bf16) (q : FVec Ideal S1x256x512 .bf16) (p : Fin 512) :
    k0_pay5 (F := Ideal) ks ps q (ix2 0 p) = Finset.fold max (⊥ : EReal) (fun r : Fin 512 => k0_pay4 (F := Ideal) ks ps q (ix4 0 0 r p)) Finset.univ := by
  pointwise [k0_pay4, k0_pay5, Cert.Softmax.lit_bot]

theorem pay52_at (sl : Ideal .f32) (ks : FVec Ideal S1x512x128 .bf16) (ds : FVec Ideal S512x512 .f32) (q : FVec Ideal S1x128x512 .bf16) (r p : Fin 512) :
    k0_pay52 (F := Ideal) sl ks ds q (ix4 0 0 r p)
      = (∑ k : Fin 128, ks (ix3 0 r k) * q (ix3 0 k p)) + ds (ix2 r p) * (0 - sl) := by
  pointwise [k0_pay52, k0_pay51, k0_pay50, k0_pay49]

theorem pay53_at (sl : Ideal .f32) (ks : FVec Ideal S1x512x128 .bf16) (ds : FVec Ideal S512x512 .f32) (q : FVec Ideal S1x128x512 .bf16) (p : Fin 512) :
    k0_pay53 (F := Ideal) sl ks ds q (ix2 0 p) = Finset.fold max (⊥ : EReal) (fun r : Fin 512 => k0_pay52 (F := Ideal) sl ks ds q (ix4 0 0 r p)) Finset.univ := by
  pointwise [k0_pay53, k0_pay52, Cert.Softmax.lit_bot]

/-! ## The two components' queries -/

theorem q0_lo (x1 : Vec Ideal S1x1x128x512 .bf16) (x4 : Vec Ideal S1x128x512 .bf16) (k : Fin 64) (p : Fin 512) :
    q0 (F := Ideal) x1 x4 (ix3 0 ⟨k, by omega⟩ p) = x1 (ix4 0 0 ⟨k, by omega⟩ p) := by
  pointwise [q0, k0_pay44, k0_pay42]

theorem q0_hi (x1 : Vec Ideal S1x1x128x512 .bf16) (x4 : Vec Ideal S1x128x512 .bf16) (k : Fin 64) (p : Fin 512) :
    q0 (F := Ideal) x1 x4 (ix3 0 ⟨64 + k, by omega⟩ p) = (0 : EReal) := by
  pointwise [q0, k0_pay44, k0_pay43]

theorem q0_pos (x1 : Vec Ideal S1x1x128x512 .bf16) (x4 : Vec Ideal S1x128x512 .bf16) (k : Fin 128) (p : Fin 512) :
    q0 (F := Ideal) x1 x4 (ix3 0 ⟨128 + k, by omega⟩ p) = x4 (ix3 0 k p) := by
  pointwise [q0, k0_pay44, k0_pay42]
  rw [dif_neg (by omega), dif_neg (by omega)]
  congr 2; ext; simp; omega

theorem q1_lo (x1 : Vec Ideal S1x1x128x512 .bf16) (x4 : Vec Ideal S1x128x512 .bf16) (k : Fin 64) (p : Fin 512) :
    q1 (F := Ideal) x1 x4 (ix3 0 ⟨k, by omega⟩ p) = (0 : EReal) := by
  pointwise [q1, k0_pay45, k0_pay43]

theorem q1_hi (x1 : Vec Ideal S1x1x128x512 .bf16) (x4 : Vec Ideal S1x128x512 .bf16) (k : Fin 64) (p : Fin 512) :
    q1 (F := Ideal) x1 x4 (ix3 0 ⟨64 + k, by omega⟩ p) = x1 (ix4 0 0 ⟨64 + k, by omega⟩ p) := by
  pointwise [q1, k0_pay45, k0_pay42]

theorem q1_pos (x1 : Vec Ideal S1x1x128x512 .bf16) (x4 : Vec Ideal S1x128x512 .bf16) (k : Fin 128) (p : Fin 512) :
    q1 (F := Ideal) x1 x4 (ix3 0 ⟨128 + k, by omega⟩ p) = x4 (ix3 0 k p) := by
  pointwise [q1, k0_pay45, k0_pay42]
  rw [dif_neg (by omega), dif_neg (by omega)]
  congr 2; ext; simp; omega

theorem qt0_at (x1 : Vec Ideal S1x1x128x512 .bf16) (x4 : Vec Ideal S1x128x512 .bf16) (k : Fin 128) (p : Fin 512) :
    qt0 (F := Ideal) x1 x4 (ix3 0 k p) = q0 (F := Ideal) x1 x4 (ix3 0 ⟨k, by omega⟩ p) := by
  refine Eq.trans ?_ (View.canon_cons_emb rQ0 (q0 (F := Ideal) x1 x4) [] (ix3 0 ⟨k, by omega⟩ p))
  unfold qt0 View.ld
  congr 1
  funext a; fin_cases a <;> rfl

theorem qt1_at (x1 : Vec Ideal S1x1x128x512 .bf16) (x4 : Vec Ideal S1x128x512 .bf16) (k : Fin 128) (p : Fin 512) :
    qt1 (F := Ideal) x1 x4 (ix3 0 k p) = q1 (F := Ideal) x1 x4 (ix3 0 ⟨k, by omega⟩ p) := by
  refine Eq.trans ?_ (View.canon_cons_emb rQ1 (q1 (F := Ideal) x1 x4) [⟨rQ0, q0 (F := Ideal) x1 x4⟩] (ix3 0 ⟨k, by omega⟩ p))
  unfold qt1 qq View.ld
  congr 1
  funext a; fin_cases a <;> rfl

/-! ## The repeats -/

section Repeats

variable {F : FTy → Type} [FloatOps F]
variable (i : grid0.Coords) (sl : Elt F .f32) (x2 : Vec F S1x8192x128 .bf16) (x3 : Vec F S1x16x128x512 .bf16) (x5 : Vec F S1x2x512x128 .bf16)
  (qa qb : Vec F S1x256x512 .bf16) (k : Fin k0_t1_loop.trips) (s : St F)

theorem pay8_eq (ks : Vec F S1x512x128 .bf16) (ps : Vec F S1x1x512x128 .bf16) (q : Vec F S1x256x512 .bf16) :
    k0_pay8 (k0_pay6 ks ps q) = k0_pay5 ks ps q := by
  have e : k0_pay6 ks ps q = k0_pay3 ks ps q := rfl
  simp only [k0_pay8, k0_pay5, e]
theorem pay25_eq (ks : Vec F S1x512x128 .bf16) (ps : Vec F S1x1x512x128 .bf16) (q : Vec F S1x256x512 .bf16) :
    k0_pay25 (k0_pay21 ks) ps q = k0_pay5 ks ps q := by
  have e : k0_pay23 (k0_pay21 ks) ps q = k0_pay3 ks ps q := rfl
  simp only [k0_pay25, k0_pay5, e]
theorem pay28_eq (ks : Vec F S1x512x128 .bf16) (ps : Vec F S1x1x512x128 .bf16) (q : Vec F S1x256x512 .bf16) :
    k0_pay28 (k0_pay21 ks) ps q = k0_pay5 ks ps q := by
  have e : k0_pay26 (k0_pay21 ks) ps q = k0_pay3 ks ps q := rfl
  simp only [k0_pay28, k0_pay5, e]

/-- The constant of the tile `j`, seen from the point's query tile. -/
def cj (j : BitVec 32) : Elt F .f32 := k0_pay9 (BitVec.ofNat 32 (i 2).val) sl j

theorem half_m0 : (half i sl x2 x3 x5 qa qb k s).m0 = k0_pay66 s.m0 s.x0 (cj i sl s.j) := rfl
theorem half_l0 : (half i sl x2 x3 x5 qa qb k s).l0 = k0_pay69 s.m0 s.l0 s.x0 (cj i sl s.j) s.s0 := rfl
theorem half_a0 : (half i sl x2 x3 x5 qa qb k s).a0 = k0_pay70 s.m0 s.x0 (cj i sl s.j) (vTile i x3 s.j) s.s0 s.a0 := rfl
theorem half_m1 : (half i sl x2 x3 x5 qa qb k s).m1 = k0_pay66 s.m1 s.x1 (cj i sl s.j) := rfl
theorem half_l1 : (half i sl x2 x3 x5 qa qb k s).l1 = k0_pay69 s.m1 s.l1 s.x1 (cj i sl s.j) s.s1 := rfl
theorem half_a1 : (half i sl x2 x3 x5 qa qb k s).a1 = k0_pay70 s.m1 s.x1 (cj i sl s.j) (vTile i x3 s.j) s.s1 s.a1 := rfl
theorem half_s0 : (half i sl x2 x3 x5 qa qb k s).s0 = k0_pay4 (keysA i x2 k) (posA i x5 k) qa := rfl
theorem half_s1 : (half i sl x2 x3 x5 qa qb k s).s1 = k0_pay4 (keysA i x2 k) (posA i x5 k) qb := rfl
theorem half_mx0 : (half i sl x2 x3 x5 qa qb k s).x0 = k0_pay5 (keysA i x2 k) (posA i x5 k) qa := by delta half; dsimp only
theorem half_mx1 : (half i sl x2 x3 x5 qa qb k s).x1 = k0_pay5 (keysA i x2 k) (posA i x5 k) qb := by delta half; dsimp only; exact pay8_eq _ _ _
theorem half_j : (half i sl x2 x3 x5 qa qb k s).j = wordA i k := rfl

theorem half'_m0 : (half' i sl x2 x3 x5 qa qb k s).m0 = k0_pay66 s.m0 s.x0 (cj i sl s.j) := rfl
theorem half'_l0 : (half' i sl x2 x3 x5 qa qb k s).l0 = k0_pay69 s.m0 s.l0 s.x0 (cj i sl s.j) s.s0 := rfl
theorem half'_a0 : (half' i sl x2 x3 x5 qa qb k s).a0 = k0_pay70 s.m0 s.x0 (cj i sl s.j) (valsA i x3 k) s.s0 s.a0 := rfl
theorem half'_m1 : (half' i sl x2 x3 x5 qa qb k s).m1 = k0_pay66 s.m1 s.x1 (cj i sl s.j) := rfl
theorem half'_l1 : (half' i sl x2 x3 x5 qa qb k s).l1 = k0_pay69 s.m1 s.l1 s.x1 (cj i sl s.j) s.s1 := rfl
theorem half'_a1 : (half' i sl x2 x3 x5 qa qb k s).a1 = k0_pay70 s.m1 s.x1 (cj i sl s.j) (valsA i x3 k) s.s1 s.a1 := rfl
theorem half'_s0 : (half' i sl x2 x3 x5 qa qb k s).s0 = k0_pay4 (keysB i x2 k) (posB i x5 k) qa := rfl
theorem half'_s1 : (half' i sl x2 x3 x5 qa qb k s).s1 = k0_pay4 (keysB i x2 k) (posB i x5 k) qb := rfl
theorem half'_mx0 : (half' i sl x2 x3 x5 qa qb k s).x0 = k0_pay5 (keysB i x2 k) (posB i x5 k) qa := by delta half'; dsimp only; exact pay25_eq _ _ _
theorem half'_mx1 : (half' i sl x2 x3 x5 qa qb k s).x1 = k0_pay5 (keysB i x2 k) (posB i x5 k) qb := by delta half'; dsimp only; exact pay28_eq _ _ _
theorem half'_j : (half' i sl x2 x3 x5 qa qb k s).j = wordB i k := rfl

variable (x0 : Vec F S8 .f32) (x1 : Vec F S1x1x128x512 .bf16) (x4 : Vec F S1x128x512 .bf16) (x6 : Vec F S512x512 .f32)

/-- The own tile's constant: the distance of a tile to itself. -/
def cd : Elt F .f32 := k0_pay64 (BitVec.ofNat 32 (i 2).val) sl

theorem start_m0 : (start i x0 x1 x2 x3 x4 x5 x6).m0
    = k0_pay66 (k0_pay47 (F := F)) (k0_pay53 (slope i x0) (keysD i x2) (dist x6) (qt0 x1 x4)) (cd i (slope i x0)) := by delta start; dsimp only; rfl
theorem start_l0 : (start i x0 x1 x2 x3 x4 x5 x6).l0
    = k0_pay69 (k0_pay47 (F := F)) (k0_pay48 (F := F)) (k0_pay53 (slope i x0) (keysD i x2) (dist x6) (qt0 x1 x4)) (cd i (slope i x0))
        (k0_pay52 (slope i x0) (keysD i x2) (dist x6) (qt0 x1 x4)) := by delta start; dsimp only; rfl
theorem start_a0 : (start i x0 x1 x2 x3 x4 x5 x6).a0
    = k0_pay70 (k0_pay47 (F := F)) (k0_pay53 (slope i x0) (keysD i x2) (dist x6) (qt0 x1 x4)) (cd i (slope i x0)) (valsD i x3)
        (k0_pay52 (slope i x0) (keysD i x2) (dist x6) (qt0 x1 x4)) (View.ld (k0_pay46 (F := F)) rA0) := by delta start; dsimp only; rfl
theorem start_m1 : (start i x0 x1 x2 x3 x4 x5 x6).m1
    = k0_pay66 (k0_pay47 (F := F)) (k0_pay53 (slope i x0) (keysD i x2) (dist x6) (qt1 x1 x4)) (cd i (slope i x0)) := by delta start; dsimp only; rfl
theorem start_l1 : (start i x0 x1 x2 x3 x4 x5 x6).l1
    = k0_pay69 (k0_pay47 (F := F)) (k0_pay48 (F := F)) (k0_pay53 (slope i x0) (keysD i x2) (dist x6) (qt1 x1 x4)) (cd i (slope i x0))
        (k0_pay52 (slope i x0) (keysD i x2) (dist x6) (qt1 x1 x4)) := by delta start; dsimp only; rfl
theorem start_a1 : (start i x0 x1 x2 x3 x4 x5 x6).a1
    = k0_pay70 (k0_pay47 (F := F)) (k0_pay53 (slope i x0) (keysD i x2) (dist x6) (qt1 x1 x4)) (cd i (slope i x0)) (valsD i x3)
        (k0_pay52 (slope i x0) (keysD i x2) (dist x6) (qt1 x1 x4)) (View.ld (k0_pay46 (F := F)) rA1) := by delta start; dsimp only; rfl
theorem start_s0 : (start i x0 x1 x2 x3 x4 x5 x6).s0 = k0_pay4 (keys0 i x2) (pos0 i x5) (q0 x1 x4) := by delta start; dsimp only; rfl
theorem start_s1 : (start i x0 x1 x2 x3 x4 x5 x6).s1 = k0_pay4 (keys0 i x2) (pos0 i x5) (q1 x1 x4) := by delta start; dsimp only; rfl
theorem start_mx0 : (start i x0 x1 x2 x3 x4 x5 x6).x0 = k0_pay5 (keys0 i x2) (pos0 i x5) (q0 x1 x4) := by delta start; dsimp only; rfl
theorem start_mx1 : (start i x0 x1 x2 x3 x4 x5 x6).x1 = k0_pay5 (keys0 i x2) (pos0 i x5) (q1 x1 x4) := by delta start; dsimp only; rfl
theorem start_j : (start i x0 x1 x2 x3 x4 x5 x6).j = word0 i := by delta start; dsimp only

/-- The end, over the four accumulations of the last tile. -/
theorem result_eq (x7 : Vec F S4x64 .f32) (x8 : Vec F S128x1 .f32) : result i sl x3 x7 x8 s
    = k0_pay1 (k0_pay91 (k0_pay69 s.m0 s.l0 s.x0 (cj i sl s.j) s.s0) (k0_pay69 s.m1 s.l1 s.x1 (cj i sl s.j) s.s1)
        (View.ld x7 (Rect.unit (s := S4x64) ![0, 0] S4x64.size inb_S4x64_S4x64_0_0))
        (k0_pay70 s.m0 s.x0 (cj i sl s.j) (vTile i x3 s.j) s.s0 s.a0)
        (k0_pay70 s.m1 s.x1 (cj i sl s.j) (vTile i x3 s.j) s.s1 s.a1)
        (View.ld x8 (Rect.unit (s := S128x1) ![0, 0] S128x1.size inb_S128x1_S128x1_0_0))) := rfl

end Repeats

end Cert.AttnIdeal.Mix

end
-- ==== Proof.AttnHost.lean ====
/- What the attention call's host operations leave in the tables the kernel reads, and the blocks of them a grid
   point is given. -/
module

public import proofs.«01_k».proof.Proof.AttnIdealRun
public import proofs.«01_k».proof.Proof.AttnConst
public import Idealize.ShloMosaic.Lib.Claim
public import Idealize.ShloMosaic.Lib.StableHlo.RunRead
public import Idealize.ShloMosaic.Lib.StableHlo.ReadAt
public import Idealize.ShloMosaic.Lib.Pointwise
public import Idealize.ShloMosaic.Lib.Pipeline.ValueKit

@[expose] public section

set_option maxRecDepth 16384

noncomputable section

namespace Cert.AttnIdeal.Mix

open Idealize.ShloMosaic Idealize.ShloMosaic.TcCoe Idealize.SL.Sem
open Cert.AttnIdeal Cert.AttnIdeal.Gen StableHlo Cert.Softmax

/-! ## The numbers in the tables -/

/-- A head's slope, and the slope in base-two logarithms. -/
def slp (h : Fin 8) : ℝ := 1 / 2 ^ (h.val + 1)
def slq (h : Fin 8) : ℝ := slp h * (1 / Real.log 2)

/-- The lower and the upper part of a position within a tile. -/
def lo (p : Fin 512) : ℝ := ((IntOp.andi (BitVec.ofNat 32 p.val) 255#32).toInt : ℝ)
def hi (p : Fin 512) : ℝ := (p.val : ℝ) - lo p

/-- The position rows of a query and the position columns of a key. -/
def pq (h : Fin 8) (p : Fin 512) (k : Fin 128) : ℝ :=
  if k.val < 6 then (if k.val < 3 then hi p else lo p) else if k.val < 12 then (if k.val = 6 ∨ k.val = 9 then slq h else 0) else 0
def pk (h : Fin 8) (r : Fin 512) (k : Fin 128) : ℝ :=
  if k.val < 6 then (if k.val = 0 ∨ k.val = 3 then slq h else 0) else if k.val < 12 then (if k.val < 9 then hi r else lo r) * -1 else 0

/-- Their product is the slope times the difference of the positions. -/
theorem pos_sum (h : Fin 8) (r p : Fin 512) : ∑ k : Fin 128, pk h r k * pq h p k = slq h * ((p.val : ℝ) - r.val) := by
  rw [Fin.sum_univ_two_halves 12 116 rfl]
  have e : ∑ k : Fin 116, pk h r ⟨12 + k, by omega⟩ * pq h p ⟨12 + k, by omega⟩ = 0 := by
    refine Finset.sum_eq_zero fun k _ => ?_
    simp [pk, pq, show ¬(12 + k.val < 6) by omega]
  rw [e, add_zero]
  simp [Fin.sum_univ_succ, pk, pq, hi]
  ring

theorem two_pow (h : Fin 8) : (FloatOps.sitofp (F := Ideal) .f32 (IntOp.shli ArithUnit.host (2#32) (BitVec.ofNat 32 h.val)) : EReal) = ((2 ^ (h.val + 1) : ℝ) : EReal) := by
  have e : ∀ h : Fin 8, (IntOp.shli ArithUnit.host (2#32) (BitVec.ofNat 32 h.val)).toInt = 2 ^ (h.val + 1) := by decide +kernel
  show (((IntOp.shli ArithUnit.host (2#32) (BitVec.ofNat 32 h.val)).toInt : ℝ) : EReal) = _
  rw [e h]; push_cast; rfl

theorem log_two : Ideal.log (Ideal.ofBits .f32 0x40000000#32) = ((Real.log 2 : ℝ) : EReal) := by
  rw [lit_two, Ideal.log_coe, if_neg (by norm_num)]

theorem log_two_ne : Real.log 2 ≠ 0 := (Real.log_pos (by norm_num)).ne'

theorem div_real (x y : ℝ) (h : y ≠ 0) : Ideal.div (x : EReal) (y : EReal) = ((x / y : ℝ) : EReal) := by
  rw [Ideal.div_coe h, ← EReal.coe_mul]; congr 1; ring

theorem slope_val (h : Fin 8) :
    Ideal.div 1 (FloatOps.sitofp (F := Ideal) .f32 (IntOp.shli ArithUnit.host (2#32) (BitVec.ofNat 32 h.val))) = ((slp h : ℝ) : EReal) := by
  rw [two_pow, show (1 : EReal) = ((1 : ℝ) : EReal) from rfl, div_real _ _ (by positivity)]; rfl

theorem inv_log : Ideal.div 1 (Ideal.log (Ideal.ofBits .f32 0x40000000#32)) = ((1 / Real.log 2 : ℝ) : EReal) := by
  rw [log_two, show (1 : EReal) = ((1 : ℝ) : EReal) from rfl, div_real _ _ log_two_ne]

/-- The third constant of the tables: nothing is left of the slope after the first. -/
theorem third (h : Fin 8) : Ideal.div (((slp h : ℝ) : EReal) * Ideal.div (Ideal.ofBits .f32 0x40A00000#32) (Ideal.log (Ideal.ofBits .f32 0x40000000#32))
      - Ideal.ofBits .f32 0x40A00000#32 * (((slp h : ℝ) : EReal) * ((1 / Real.log 2 : ℝ) : EReal))
      - Ideal.ofBits .f32 0x40A00000#32 * (((slp h : ℝ) : EReal) * ((1 / Real.log 2 : ℝ) : EReal) - ((slp h : ℝ) : EReal) * ((1 / Real.log 2 : ℝ) : EReal)))
      (Ideal.ofBits .f32 0x40A00000#32) = ((0 : ℝ) : EReal) := by
  rw [log_two, lit_five, div_real _ _ log_two_ne]
  simp only [← EReal.coe_mul, ← EReal.coe_sub]
  rw [div_real _ _ (by norm_num)]
  congr 1
  ring

theorem lt_word (k : Fin 128) : IntOp.cmpi .slt (BitVec.ofNat 32 k.val) 3#32 = (if k.val < 3 then 1#1 else 0#1)
    ∧ IntOp.cmpi .slt (BitVec.ofNat 32 k.val) 6#32 = (if k.val < 6 then 1#1 else 0#1)
    ∧ IntOp.cmpi .slt (BitVec.ofNat 32 k.val) 9#32 = (if k.val < 9 then 1#1 else 0#1)
    ∧ IntOp.cmpi .slt (BitVec.ofNat 32 k.val) 12#32 = (if k.val < 12 then 1#1 else 0#1) := by
  revert k; decide +kernel
theorem eq_word (k : Fin 128) : IntOp.ori (IntOp.cmpi .eq (BitVec.ofNat 32 k.val) 6#32) (IntOp.cmpi .eq (BitVec.ofNat 32 k.val) 9#32) = (if k.val = 6 ∨ k.val = 9 then 1#1 else 0#1)
    ∧ IntOp.ori (IntOp.cmpi .eq (BitVec.ofNat 32 k.val) 0#32) (IntOp.cmpi .eq (BitVec.ofNat 32 k.val) 3#32) = (if k.val = 0 ∨ k.val = 3 then 1#1 else 0#1) := by
  revert k; decide +kernel

theorem select_ite (P : Prop) [Decidable P] (a b : EReal) : Scalar.select (if P then 1#1 else 0#1) a b = if P then a else b := by
  by_cases h : P
  · rw [if_pos h, if_pos h]; rfl
  · rw [if_neg h, if_neg h]; rfl

theorem ite_real (P : Prop) [Decidable P] (a b : ℝ) : (if P then (a : EReal) else (b : EReal)) = ((if P then a else b : ℝ) : EReal) := by
  split <;> rfl

theorem zero_lit : (constant (F := Ideal) S_ FTy.f32 0#32 ix0 : EReal) = ((0 : ℝ) : EReal) := Ideal.ofBits_zero_f32

theorem select_same (c : BitVec 1) (a : EReal) : Scalar.select c a a = a := by
  unfold Scalar.select; split <;> rfl

theorem pos_word (p : Fin 512) : (FloatOps.sitofp (F := Ideal) .f32 (BitVec.ofNat 32 p.val) : EReal) = ((p.val : ℝ) : EReal) := by
  show (((BitVec.ofNat 32 p.val).toInt : ℝ) : EReal) = _
  have e : ∀ p : Fin 512, (BitVec.ofNat 32 p.val).toInt = p.val := by decide +kernel
  rw [e]; norm_cast

theorem lo_word (p : Fin 512) : (FloatOps.sitofp (F := Ideal) .f32 (IntOp.andi (BitVec.ofNat 32 p.val) 255#32) : EReal) = ((lo p : ℝ) : EReal) := rfl

/-- The word of a distance. -/
theorem abs_word (a b : ℕ) (ha : a < 8192) (hb : b < 8192) :
    (FloatOps.sitofp (F := Ideal) .f32 (IntOp.absi (IntOp.subi (BitVec.ofNat 32 a) (BitVec.ofNat 32 b))) : EReal) = ((|(a : ℝ) - b| : ℝ) : EReal) := by
  show (((IntOp.absi (IntOp.subi (BitVec.ofNat 32 a) (BitVec.ofNat 32 b))).toInt : ℝ) : EReal) = _
  have e : (IntOp.absi (IntOp.subi (BitVec.ofNat 32 a) (BitVec.ofNat 32 b))).toInt = |(a : ℤ) - b| := by
    have h1 : (BitVec.ofNat 32 a - BitVec.ofNat 32 b).toInt = (a : ℤ) - b := by
      have t : ∀ n : ℕ, n < 8192 → (BitVec.ofNat 32 n).toInt = n := fun n hn => by
        have h0 : (BitVec.ofNat 32 n).toNat = n := by rw [BitVec.toNat_ofNat]; exact Nat.mod_eq_of_lt (by omega)
        rw [BitVec.toInt_eq_toNat_of_lt (by omega), h0]
      rw [BitVec.toInt_sub, t a ha, t b hb]
      exact Int.bmod_eq_of_le (by omega) (by omega)
    unfold IntOp.absi IntOp.subi
    rw [BitVec.msb_eq_toInt, h1]
    by_cases h : (a : ℤ) - b < 0
    · rw [if_pos (by simpa using h), abs_of_neg h, BitVec.toInt_neg, h1]
      exact Int.bmod_eq_of_le (by omega) (by omega)
    · rw [if_neg (by simpa using h), abs_of_nonneg (by omega), h1]
  rw [e]; push_cast; rfl

/-! ## The tables -/

section Tables

variable (m : (ℓ : Loc nD τ sig) → Buf (Elt Ideal) ℓ) (c : Dev nD)

set_option maxHeartbeats 4000000 in
theorem slopes_at (h : Fin 8) : V (F := Ideal) m c main_v31 (ix1 h) = ((slq h : ℝ) : EReal) := by
  unfold V
  after_reads_at
  rw [slope_val, inv_log, ← EReal.coe_mul]; rfl

set_option maxHeartbeats 4000000 in
theorem absd_at (r p : Fin 512) : V (F := Ideal) m c main_v120 (ix2 r p) = ((|(r.val : ℝ) - p.val| : ℝ) : EReal) := by
  unfold V
  after_reads_at
  exact abs_word _ _ (by omega) (by omega)

set_option maxHeartbeats 4000000 in
theorem pq_at (h : Fin 8) (k : Fin 128) (p : Fin 512) : V (F := Ideal) m c main_v121 (ix3 h k p) = ((pq h p k : ℝ) : EReal) := by
  unfold V
  after_reads_at
  simp only [slope_val, inv_log]
  rw [third, ← EReal.coe_mul, ← EReal.coe_sub, sub_self, select_same, lo_word, pos_word, ← EReal.coe_sub,
    (lt_word k).1, (lt_word k).2.1, (lt_word k).2.2.2, (eq_word k).1]
  simp only [select_ite, id, zero_lit, ite_real]
  rfl

set_option maxHeartbeats 4000000 in
theorem pk_at (h : Fin 8) (g : Fin 2) (r : Fin 512) (k : Fin 128) :
    V (F := Ideal) m c main_v122 (ix4 h g r k) = ((if g.val < 1 then pk h r k else -pk h r k : ℝ) : EReal) := by
  unfold V
  after_reads_simp
  pointwise
  after_reads_at
  simp only [slope_val, inv_log]
  rw [third, ← EReal.coe_mul, ← EReal.coe_sub, sub_self, select_same, lo_word, pos_word, ← EReal.coe_sub,
    (lt_word k).2.1, (lt_word k).2.2.1, (lt_word k).2.2.2, (eq_word k).2, lit_neg_one]
  simp only [select_ite, id, zero_lit, ite_real, ← EReal.coe_mul, ← EReal.coe_neg, dite_eq_ite]
  rfl

set_option maxHeartbeats 4000000 in
theorem qt_at (b : Fin 8) (i : Fin 16) (d : Fin 1024) (p : Fin 512) : V (F := Ideal) m c main_v11 (ix4 b i d p)
    = (show FVec Ideal S8x8192x1024 .f32 from m ((c : Thread nD τ).loc main_arg0)) (ix3 b ⟨i * 512 + p, by omega⟩ d) * ((1 / 8 / Real.log 2 : ℝ) : EReal) := by
  unfold V
  after_reads_at
  rw [log_two, lit_eighth, div_real _ _ log_two_ne]

set_option maxHeartbeats 4000000 in
theorem k_at (b : Fin 8) (s : Fin 8192) (d : Fin 1024) : V (F := Ideal) m c main_v12 (ix3 b s d)
    = (show FVec Ideal S8x8192x1024 .f32 from m ((c : Thread nD τ).loc main_arg1)) (ix3 b s d) := by
  unfold V
  after_reads_at
  try rfl

set_option maxHeartbeats 4000000 in
theorem vt_at (b : Fin 8) (i : Fin 16) (e : Fin 1024) (r : Fin 512) : V (F := Ideal) m c main_v15 (ix4 b i e r)
    = (show FVec Ideal S8x8192x1024 .f32 from m ((c : Thread nD τ).loc main_arg2)) (ix3 b ⟨i * 512 + r, by omega⟩ e) := by
  unfold V
  after_reads_at
  try rfl

set_option maxHeartbeats 4000000 in
theorem g_at (e : Fin 128) : V (F := Ideal) m c main_v123 (ix2 e 0)
    = (show FVec Ideal ⟨1, ![128]⟩ .f32 from m ((c : Thread nD τ).loc main_arg7)) (ix1 e) := by
  unfold V
  after_reads_at
  try rfl

set_option maxHeartbeats 4000000 in
theorem lam0_at (d : Fin 64) : V (F := Ideal) m c main_v4 (ix2 0 d)
    = (show FVec Ideal ⟨1, ![64]⟩ .f32 from m ((c : Thread nD τ).loc main_arg3)) (ix1 d) := by
  unfold V
  after_reads_simp
  pointwise
  after_reads_at
  try rfl
set_option maxHeartbeats 4000000 in
theorem lam1_at (d : Fin 64) : V (F := Ideal) m c main_v4 (ix2 1 d)
    = (show FVec Ideal ⟨1, ![64]⟩ .f32 from m ((c : Thread nD τ).loc main_arg4)) (ix1 d) := by
  unfold V
  after_reads_simp
  pointwise
  after_reads_at
  try rfl
set_option maxHeartbeats 4000000 in
theorem lam2_at (d : Fin 64) : V (F := Ideal) m c main_v4 (ix2 2 d)
    = (show FVec Ideal ⟨1, ![64]⟩ .f32 from m ((c : Thread nD τ).loc main_arg5)) (ix1 d) := by
  unfold V
  after_reads_simp
  pointwise
  after_reads_at
  try rfl
set_option maxHeartbeats 4000000 in
theorem lam3_at (d : Fin 64) : V (F := Ideal) m c main_v4 (ix2 3 d)
    = (show FVec Ideal ⟨1, ![64]⟩ .f32 from m ((c : Thread nD τ).loc main_arg6)) (ix1 d) := by
  unfold V
  after_reads_simp
  pointwise
  after_reads_at
  try rfl

end Tables

/-! ## The blocks of a grid point -/

section Blocks

variable (m : (ℓ : Loc nD τ sig) → Buf (Elt Ideal) ℓ) (c : Dev nD)

/-- The batch, the head and the query tile of a point. -/
def bb (i : grid0.Coords) : Fin 8 := i 0
def hh (i : grid0.Coords) : Fin 8 := i 1
def tt (i : grid0.Coords) : Fin 16 := i 2

theorem idx : ∀ t : Fin cfg0.N, win0_0.index t = ![0]
    ∧ win0_1.index t = ![(bb (grid0.coords t)).val, (tt (grid0.coords t)).val, (hh (grid0.coords t)).val, 0]
    ∧ win0_2.index t = ![(bb (grid0.coords t)).val, 0, (hh (grid0.coords t)).val]
    ∧ win0_3.index t = ![(bb (grid0.coords t)).val, 0, (hh (grid0.coords t)).val, 0]
    ∧ win0_4.index t = ![(hh (grid0.coords t)).val, 0, 0]
    ∧ win0_5.index t = ![(hh (grid0.coords t)).val, 0, 0, 0]
    ∧ win0_6.index t = ![0, 0] ∧ win0_7.index t = ![0, 0] ∧ win0_8.index t = ![0, 0]
    ∧ win0_9.index t = ![(bb (grid0.coords t)).val, (tt (grid0.coords t)).val, (hh (grid0.coords t)).val] :=
  (by decide +kernel : ∀ t : Fin grid0.N, _)

variable (t : Fin cfg0.N)

theorem blk0 (h : Fin 8) : (show FVec Ideal S8 .f32 from iblk m c 0 t) (ix1 h) = (show FVec Ideal S8 .f32 from V m c main_v31) (ix1 h) := by
  blk_ext [iblk, idx t]
theorem blk1 (d : Fin 128) (p : Fin 512) : (show FVec Ideal S1x1x128x512 .bf16 from iblk m c 1 t) (ix4 0 0 d p)
    = (show FVec Ideal S8x16x1024x512 .bf16 from V m c main_v11) (ix4 (bb (grid0.coords t)) (tt (grid0.coords t)) ⟨(hh (grid0.coords t)).val * 128 + d.val, by omega⟩ p) := by
  blk_ext [iblk, idx t]
theorem blk2 (s : Fin 8192) (d : Fin 128) : (show FVec Ideal S1x8192x128 .bf16 from iblk m c 2 t) (ix3 0 s d)
    = (show FVec Ideal S8x8192x1024 .bf16 from V m c main_v12) (ix3 (bb (grid0.coords t)) s ⟨(hh (grid0.coords t)).val * 128 + d.val, by omega⟩) := by
  blk_ext [iblk, idx t]
theorem blk3 (T : Fin 16) (e : Fin 128) (r : Fin 512) : (show FVec Ideal S1x16x128x512 .bf16 from iblk m c 3 t) (ix4 0 T e r)
    = (show FVec Ideal S8x16x1024x512 .bf16 from V m c main_v15) (ix4 (bb (grid0.coords t)) T ⟨(hh (grid0.coords t)).val * 128 + e.val, by omega⟩ r) := by
  blk_ext [iblk, idx t]
theorem blk4 (k : Fin 128) (p : Fin 512) : (show FVec Ideal S1x128x512 .bf16 from iblk m c 4 t) (ix3 0 k p)
    = (show FVec Ideal S8x128x512 .bf16 from V m c main_v121) (ix3 (hh (grid0.coords t)) k p) := by
  blk_ext [iblk, idx t]
theorem blk5 (g : Fin 2) (r : Fin 512) (k : Fin 128) : (show FVec Ideal S1x2x512x128 .bf16 from iblk m c 5 t) (ix4 0 g r k)
    = (show FVec Ideal S8x2x512x128 .bf16 from V m c main_v122) (ix4 (hh (grid0.coords t)) g r k) := by
  blk_ext [iblk, idx t]
theorem blk6 (r p : Fin 512) : (show FVec Ideal S512x512 .f32 from iblk m c 6 t) (ix2 r p) = (show FVec Ideal S512x512 .f32 from V m c main_v120) (ix2 r p) := by
  blk_ext [iblk, idx t]
theorem blk7 (r : Fin 4) (d : Fin 64) : (show FVec Ideal S4x64 .f32 from iblk m c 7 t) (ix2 r d) = (show FVec Ideal S4x64 .f32 from V m c main_v4) (ix2 r d) := by
  blk_ext [iblk, idx t]
theorem blk8 (e : Fin 128) : (show FVec Ideal S128x1 .f32 from iblk m c 8 t) (ix2 e 0) = (show FVec Ideal S128x1 .f32 from V m c main_v123) (ix2 e 0) := by
  blk_ext [iblk, idx t]

end Blocks

end Cert.AttnIdeal.Mix

end
-- ==== Proof.AttnTiles.lean ====
/- The order in which the attention call's loop takes the key tiles, and what it loads of each. -/
module

public import proofs.«01_k».proof.Proof.AttnIdealRun
public import Idealize.ShloMosaic.Lib.Claim
public import Idealize.ShloMosaic.Lib.Pointwise
public import Idealize.ShloMosaic.Lib.Pipeline.ValueKit

@[expose] public section

set_option maxRecDepth 16384

noncomputable section

namespace Cert.AttnIdeal.Mix

open Idealize.ShloMosaic Idealize.ShloMosaic.TcCoe Idealize.SL.Sem
open Cert.AttnIdeal Cert.AttnIdeal.Gen

/-- The tile taken `n`-th from query tile `t`: its own first, then the others from the left. -/
def ord (t : Fin 16) (n : ℕ) : Fin 16 :=
  if n = 0 then t else if n - 1 < t.val then ⟨(n - 1) % 16, by omega⟩ else ⟨n % 16, by omega⟩

/-- Every tile is taken once. -/
theorem sum_ord (t : Fin 16) (f : Fin 16 → ℝ) : ∑ n ∈ Finset.range 16, f (ord t n) = ∑ T, f T := by
  rw [Finset.sum_range]
  have hb : Function.Bijective fun n : Fin 16 => ord t n.val := by
    refine (Finite.injective_iff_bijective).mp ?_
    have h : ∀ t a b : Fin 16, ord t a.val = ord t b.val → a = b := by decide +kernel
    exact fun a b => h t a b
  exact hb.sum_comp f

variable {F : FTy → Type} [FloatOps F]
variable (i : grid0.Coords)

/-- The side a tile lies on: `1` left of the query tile. -/
def side (t T : Fin 16) : Fin 2 := if T.val < t.val then 1 else 0

theorem trips_eq : k0_t1_loop.trips = 7 := by decide +kernel

theorem word0_eq : word0 i = BitVec.ofNat 32 (ord (i 2) 1).val := by
  have h : ∀ t : Fin 16, Scalar.addi 0#32 (Scalar.select (Scalar.cmpi .sle (BitVec.ofNat 32 t.val) 0#32) 1#32 0#32) = BitVec.ofNat 32 (ord t 1).val := by decide +kernel
  exact h (i 2)
theorem wordA_eq (k : Fin k0_t1_loop.trips) : wordA i k = BitVec.ofNat 32 (ord (i 2) (2 * k.val + 2)).val := by
  have h : ∀ (t : Fin 16) (k : Fin k0_t1_loop.trips), Scalar.addi (Scalar.addi 1#32 (Scalar.muli 2#32 (Scf.iv 0#32 1#32 k)))
    (Scalar.select (Scalar.cmpi .sge (Scalar.addi 1#32 (Scalar.muli 2#32 (Scf.iv 0#32 1#32 k))) (BitVec.ofNat 32 t.val)) 1#32 0#32)
      = BitVec.ofNat 32 (ord t (2 * k.val + 2)).val := by decide +kernel
  exact h (i 2) k
theorem wordB_eq (k : Fin k0_t1_loop.trips) : wordB i k = BitVec.ofNat 32 (ord (i 2) (2 * k.val + 3)).val := by
  have h : ∀ (t : Fin 16) (k : Fin k0_t1_loop.trips), Scalar.addi (Scalar.addi 2#32 (Scalar.muli 2#32 (Scf.iv 0#32 1#32 k)))
    (Scalar.select (Scalar.cmpi .sge (Scalar.addi 2#32 (Scalar.muli 2#32 (Scf.iv 0#32 1#32 k))) (BitVec.ofNat 32 t.val)) 1#32 0#32)
      = BitVec.ofNat 32 (ord t (2 * k.val + 3)).val := by decide +kernel
  exact h (i 2) k

/-- A tile's constant in the exponent counts the tiles between. -/
theorem dist_word : ∀ t T : Fin 16, (Scalar.muli (Scalar.absi (Scalar.subi (BitVec.ofNat 32 T.val) (BitVec.ofNat 32 t.val))) 512#32).toInt
    = |(T.val : ℤ) - t.val| * 512 := by decide +kernel

theorem chk : ∀ T : Fin 16, k0_chk1 (BitVec.ofNat 32 T.val) := by decide +kernel

theorem off8_eq : ∀ T : Fin 16, k0_off8 (BitVec.ofNat 32 T.val) = ![0, T.val, 0, 0] := by decide +kernel

theorem off1_eq : k0_off1 i = ![(i 1).val] := by
  have h : ∀ t : Fin 8, k0_off1 (fun a => match a with | 0 => (0 : Fin 8) | 1 => t | 2 => (0 : Fin 16)) = ![t.val] := by decide +kernel
  exact h (i 1)

/-- A point with the query tile `t`. -/
def pt (t : Fin 16) : grid0.Coords := fun a => match a with | 0 => (0 : Fin 8) | 1 => (0 : Fin 8) | 2 => t

theorem off2_eq : k0_off2 i = ![0, (i 2).val * 512, 0] := by
  have h : ∀ t : Fin 16, k0_off2 (pt t) = ![0, t.val * 512, 0] := by decide +kernel
  exact h (i 2)
theorem off5_eq : k0_off5 i = ![0, (i 2).val, 0, 0] := by
  have h : ∀ t : Fin 16, k0_off5 (pt t) = ![0, t.val, 0, 0] := by decide +kernel
  exact h (i 2)
theorem off3_eq : k0_off3 i = ![0, (ord (i 2) 1).val * 512, 0] := by
  have h : ∀ t : Fin 16, k0_off3 (pt t) = ![0, (ord t 1).val * 512, 0] := by decide +kernel
  exact h (i 2)
theorem off4_eq : k0_off4 i = ![0, (side (i 2) (ord (i 2) 1)).val, 0, 0] := by
  have h : ∀ t : Fin 16, k0_off4 (pt t) = ![0, (side t (ord t 1)).val, 0, 0] := by decide +kernel
  exact h (i 2)
theorem off6_eq (k : Fin k0_t1_loop.trips) : k0_off6 i k = ![0, (ord (i 2) (2 * k.val + 2)).val * 512, 0] := by
  have h : ∀ (t : Fin 16) (k : Fin k0_t1_loop.trips), k0_off6 (pt t) k = ![0, (ord t (2 * k.val + 2)).val * 512, 0] := by decide +kernel
  exact h (i 2) k
theorem off7_eq (k : Fin k0_t1_loop.trips) : k0_off7 i k = ![0, (side (i 2) (ord (i 2) (2 * k.val + 2))).val, 0, 0] := by
  have h : ∀ (t : Fin 16) (k : Fin k0_t1_loop.trips), k0_off7 (pt t) k = ![0, (side t (ord t (2 * k.val + 2))).val, 0, 0] := by decide +kernel
  exact h (i 2) k
theorem off9_eq (k : Fin k0_t1_loop.trips) : k0_off9 i k = ![0, (ord (i 2) (2 * k.val + 3)).val * 512, 0] := by
  have h : ∀ (t : Fin 16) (k : Fin k0_t1_loop.trips), k0_off9 (pt t) k = ![0, (ord t (2 * k.val + 3)).val * 512, 0] := by decide +kernel
  exact h (i 2) k
theorem off10_eq (k : Fin k0_t1_loop.trips) : k0_off10 i k = ![0, (side (i 2) (ord (i 2) (2 * k.val + 3))).val, 0, 0] := by
  have h : ∀ (t : Fin 16) (k : Fin k0_t1_loop.trips), k0_off10 (pt t) k = ![0, (side t (ord t (2 * k.val + 3))).val, 0, 0] := by decide +kernel
  exact h (i 2) k
theorem off11_eq (k : Fin k0_t1_loop.trips) : k0_off11 i k = ![0, (ord (i 2) (2 * k.val + 2)).val, 0, 0] := by
  have h : ∀ (t : Fin 16) (k : Fin k0_t1_loop.trips), k0_off11 (pt t) k = ![0, (ord t (2 * k.val + 2)).val, 0, 0] := by decide +kernel
  exact h (i 2) k

/-! ## Loads at those places -/

theorem ld3 (x : Vec F S1x8192x128 .bf16) (off : Fin 3 → ℕ) (inb) (T : Fin 16) (e : off = ![0, T.val * 512, 0]) (r : Fin 512) (d : Fin 128) :
    View.ld x (Rect.unit (s := S1x8192x128) off S1x512x128.size inb) (ix3 0 r d) = x (ix3 0 ⟨T.val * 512 + r.val, by omega⟩ d) := by
  subst e
  unfold View.ld
  congr 1
  funext a; apply Fin.ext; fin_cases a <;> simp [LoadRect.idx, Rect.unit, ix2, ix3, ix4]
theorem ld4p (x : Vec F S1x2x512x128 .bf16) (off : Fin 4 → ℕ) (inb) (g : Fin 2) (e : off = ![0, g.val, 0, 0]) (r : Fin 512) (k : Fin 128) :
    View.ld x (Rect.unit (s := S1x2x512x128) off S1x1x512x128.size inb) (ix4 0 0 r k) = x (ix4 0 g r k) := by
  subst e
  unfold View.ld
  congr 1
  funext a; apply Fin.ext; fin_cases a <;> simp [LoadRect.idx, Rect.unit, ix2, ix3, ix4]
theorem ld4v (x : Vec F S1x16x128x512 .bf16) (off : Fin 4 → ℕ) (inb) (T : Fin 16) (e : off = ![0, T.val, 0, 0]) (v : Fin 128) (r : Fin 512) :
    View.ld x (Rect.unit (s := S1x16x128x512) off S1x1x128x512.size inb) (ix4 0 0 v r) = x (ix4 0 T v r) := by
  subst e
  unfold View.ld
  congr 1
  funext a; apply Fin.ext; fin_cases a <;> simp [LoadRect.idx, Rect.unit, ix2, ix3, ix4]

variable (x0 : Vec F S8 .f32) (x2 : Vec F S1x8192x128 .bf16) (x3 : Vec F S1x16x128x512 .bf16) (x5 : Vec F S1x2x512x128 .bf16) (x6 : Vec F S512x512 .f32)

theorem slope_at : slope i x0 = x0 (ix1 (i 1)) := by
  unfold slope View.ld
  congr 1
  funext a; apply Fin.ext; fin_cases a; simp [LoadRect.idx, Rect.unit, ix1, off1_eq]
theorem keysD_at (r : Fin 512) (d : Fin 128) : keysD i x2 (ix3 0 r d) = x2 (ix3 0 ⟨(ord (i 2) 0).val * 512 + r.val, by omega⟩ d) := ld3 x2 _ _ (ord (i 2) 0) (off2_eq i) r d
theorem keys0_at (r : Fin 512) (d : Fin 128) : keys0 i x2 (ix3 0 r d) = x2 (ix3 0 ⟨(ord (i 2) 1).val * 512 + r.val, by omega⟩ d) := ld3 x2 _ _ _ (off3_eq i) r d
theorem keysA_at (k : Fin k0_t1_loop.trips) (r : Fin 512) (d : Fin 128) : keysA i x2 k (ix3 0 r d) = x2 (ix3 0 ⟨(ord (i 2) (2 * k.val + 2)).val * 512 + r.val, by omega⟩ d) := ld3 x2 _ _ _ (off6_eq i k) r d
theorem keysB_at (k : Fin k0_t1_loop.trips) (r : Fin 512) (d : Fin 128) : keysB i x2 k (ix3 0 r d) = x2 (ix3 0 ⟨(ord (i 2) (2 * k.val + 3)).val * 512 + r.val, by omega⟩ d) := ld3 x2 _ _ _ (off9_eq i k) r d
theorem pos0_at (r : Fin 512) (k : Fin 128) : pos0 i x5 (ix4 0 0 r k) = x5 (ix4 0 (side (i 2) (ord (i 2) 1)) r k) := ld4p x5 _ _ _ (off4_eq i) r k
theorem posA_at (n : Fin k0_t1_loop.trips) (r : Fin 512) (k : Fin 128) : posA i x5 n (ix4 0 0 r k) = x5 (ix4 0 (side (i 2) (ord (i 2) (2 * n.val + 2))) r k) := ld4p x5 _ _ _ (off7_eq i n) r k
theorem posB_at (n : Fin k0_t1_loop.trips) (r : Fin 512) (k : Fin 128) : posB i x5 n (ix4 0 0 r k) = x5 (ix4 0 (side (i 2) (ord (i 2) (2 * n.val + 3))) r k) := ld4p x5 _ _ _ (off10_eq i n) r k
theorem valsD_at (e : Fin 128) (r : Fin 512) : valsD i x3 (ix4 0 0 e r) = x3 (ix4 0 (ord (i 2) 0) e r) := ld4v x3 _ _ (ord (i 2) 0) (off5_eq i) e r
theorem valsA_at (k : Fin k0_t1_loop.trips) (e : Fin 128) (r : Fin 512) : valsA i x3 k (ix4 0 0 e r) = x3 (ix4 0 (ord (i 2) (2 * k.val + 2)) e r) := ld4v x3 _ _ _ (off11_eq i k) e r
theorem vTile_at (T : Fin 16) (e : Fin 128) (r : Fin 512) : vTile i x3 (BitVec.ofNat 32 T.val) (ix4 0 0 e r) = x3 (ix4 0 T e r) := by
  rw [vTile_pos i x3 _ (chk T)]
  exact ld4v x3 _ _ _ (off8_eq T) e r
theorem dist_at (r p : Fin 512) : dist x6 (ix2 r p) = x6 (ix2 r p) := by
  unfold dist View.ld
  congr 1
  funext a; apply Fin.ext; fin_cases a <;> simp [LoadRect.idx, Rect.unit, ix2, ix3, ix4]

end Cert.AttnIdeal.Mix

end
-- ==== Proof.AttnLoop.lean ====
/- The attention body's loop over the reals: after all sixteen tiles a column's quotient is the softmax-weighted sum
   of the values, in base two. -/
module

public import proofs.«01_k».proof.Proof.AttnPay
public import proofs.«01_k».proof.Proof.AttnHost
public import proofs.«01_k».proof.Proof.AttnTiles

@[expose] public section

set_option maxRecDepth 16384

noncomputable section

namespace Cert.AttnIdeal.Mix

open Idealize.ShloMosaic Idealize.ShloMosaic.TcCoe Idealize.SL.Sem
open Cert.AttnIdeal Cert.AttnIdeal.Gen Cert.Softmax

/-- The blocks of a grid point as real numbers. -/
structure Blocks (i : grid0.Coords) (x0 : Vec Ideal S8 .f32) (x1 : Vec Ideal S1x1x128x512 .bf16) (x2 : Vec Ideal S1x8192x128 .bf16)
    (x3 : Vec Ideal S1x16x128x512 .bf16) (x4 : Vec Ideal S1x128x512 .bf16) (x5 : Vec Ideal S1x2x512x128 .bf16) (x6 : Vec Ideal S512x512 .f32)
    (qr : Fin 128 → Fin 512 → ℝ) (kr : Fin 8192 → Fin 128 → ℝ) (vr : Fin 16 → Fin 128 → Fin 512 → ℝ) : Prop where
  h0 : x0 (ix1 (hh i)) = ((slq (hh i) : ℝ) : EReal)
  h1 : ∀ d p, x1 (ix4 0 0 d p) = ((qr d p : ℝ) : EReal)
  h2 : ∀ s d, x2 (ix3 0 s d) = ((kr s d : ℝ) : EReal)
  h3 : ∀ T e r, x3 (ix4 0 T e r) = ((vr T e r : ℝ) : EReal)
  h4 : ∀ k p, x4 (ix3 0 k p) = ((pq (hh i) p k : ℝ) : EReal)
  h5 : ∀ g r k, x5 (ix4 0 g r k) = ((if g.val < 1 then pk (hh i) r k else -pk (hh i) r k : ℝ) : EReal)
  h6 : ∀ r p, x6 (ix2 r p) = ((|(r.val : ℝ) - p.val| : ℝ) : EReal)

section Scores

variable (i : grid0.Coords) (D : Fin 8192 → Fin 512 → ℝ)

/-- The position of a tile's row in the sequence. -/
def gpos (T : Fin 16) (r : Fin 512) : Fin 8192 := ⟨T.val * 512 + r.val, by omega⟩

/-- The score, in base-two logarithms, of key `r` of tile `T` for query `p` of the point's tile. -/
def sgm (T : Fin 16) (r p : Fin 512) : ℝ :=
  D (gpos T r) p - slq (hh i) * |((gpos T r).val : ℝ) - (gpos (tt i) p).val|

/-- The constant that tile `T`'s scores carry while they wait. -/
def cst (T : Fin 16) : ℝ := slq (hh i) * (|(T.val : ℝ) - (tt i).val| * 512)

/-- Tile `T` is scored: its scores up to the constant, and some real maximum. -/
structure Scored (T : Fin 16) (x : FVec Ideal S1x512 .f32) (s : FVec Ideal S1x1x512x512 .f32) : Prop where
  s : ∀ r p, s (ix4 0 0 r p) = ((sgm i D T r p + cst i T : ℝ) : EReal)
  x : ∀ p, ∃ X : ℝ, x (ix2 0 p) = (X : EReal)

/-- The two sums a column stands for after some tiles. -/
def Done (L : Fin 512 → ℝ) (A : Fin 128 → Fin 512 → ℝ) (m l : FVec Ideal S1x512 .f32) (a : FVec Ideal S1x128x512 .f32) : Prop :=
  ∀ e p, Holds (m (ix2 0 p)) (l (ix2 0 p)) (a (ix3 0 e p)) (L p) (A e p)

theorem scored_of (T : Fin 16) (x : FVec Ideal S1x512 .f32) (s : FVec Ideal S1x1x512x512 .f32)
    (hs : ∀ r p, s (ix4 0 0 r p) = ((sgm i D T r p + cst i T : ℝ) : EReal))
    (hx : ∀ p, x (ix2 0 p) = Finset.fold max (⊥ : EReal) (fun r : Fin 512 => s (ix4 0 0 r p)) Finset.univ) : Scored i D T x s where
  s := hs
  x := fun p => by
    obtain ⟨X, hX⟩ := fold_max_real (by norm_num : 0 < 512) (fun r : Fin 512 => s (ix4 0 0 r p)) (fun r => sgm i D T r p + cst i T) fun r => hs r p
    exact ⟨X, (hx p).trans hX⟩

/-- One accumulation. -/
theorem done_step {L : Fin 512 → ℝ} {A : Fin 128 → Fin 512 → ℝ} {m l : FVec Ideal S1x512 .f32} {a : FVec Ideal S1x128x512 .f32}
    (h : Done L A m l a) {T : Fin 16} {x : FVec Ideal S1x512 .f32} {s : FVec Ideal S1x1x512x512 .f32} (hs : Scored i D T x s)
    {c : Ideal .f32} (hc : c = ((cst i T : ℝ) : EReal)) {vt : FVec Ideal S1x1x128x512 .bf16} (vr : Fin 16 → Fin 128 → Fin 512 → ℝ)
    (hv : ∀ e r, vt (ix4 0 0 e r) = ((vr T e r : ℝ) : EReal)) :
    Done (fun p => L p + ∑ r, (2 : ℝ) ^ sgm i D T r p) (fun e p => A e p + ∑ r, vr T e r * (2 : ℝ) ^ sgm i D T r p)
      (k0_pay66 (F := Ideal) m x c) (k0_pay69 (F := Ideal) m l x c s) (k0_pay70 (F := Ideal) m x c vt s a) := by
  intro e p
  obtain ⟨X, hX⟩ := hs.x p
  rw [pay66_at, pay69_at, pay70_at, hc]
  exact holds_step (h e p) hX (fun r => s (ix4 0 0 r p)) (fun r => vt (ix4 0 0 e r)) (fun r => sgm i D T r p) (fun r => vr T e r)
    (fun r => hs.s r p) (fun r => hv e r)

/-- The score over the stacked queries of another tile. -/
theorem scored_off (T : Fin 16) (hT : T ≠ tt i) (kr : Fin 8192 → Fin 128 → ℝ) (ks : FVec Ideal S1x512x128 .bf16) (ps : FVec Ideal S1x1x512x128 .bf16) (q : FVec Ideal S1x256x512 .bf16)
    (hk : ∀ r d, ks (ix3 0 r d) = ((kr (gpos T r) d : ℝ) : EReal))
    (hp : ∀ r k, ps (ix4 0 0 r k) = ((if (side (tt i) T).val < 1 then pk (hh i) r k else -pk (hh i) r k : ℝ) : EReal))
    (hD : ∀ s p, (∑ k : Fin 128, ((kr s k : ℝ) : EReal) * q (ix3 0 ⟨k, by omega⟩ p)) = ((D s p : ℝ) : EReal))
    (hq : ∀ (k : Fin 128) p, q (ix3 0 ⟨128 + k.val, by omega⟩ p) = ((pq (hh i) p k : ℝ) : EReal)) :
    Scored i D T (k0_pay5 (F := Ideal) ks ps q) (k0_pay4 (F := Ideal) ks ps q) := by
  refine scored_of i D T _ _ (fun r p => ?_) (fun p => pay5_at ks ps q p)
  rw [pay4_at]
  simp only [hk, hp, hq, hD, ← EReal.coe_mul]
  rw [← coe_sum, ← EReal.coe_add]
  congr 1
  have hT' : T.val ≠ (tt i).val := fun e => hT (Fin.ext e)
  have hr : (r.val : ℝ) < 512 := by exact_mod_cast r.isLt
  have hp' : (p.val : ℝ) < 512 := by exact_mod_cast p.isLt
  have hr0 : (0 : ℝ) ≤ r.val := by positivity
  have hp0 : (0 : ℝ) ≤ p.val := by positivity
  unfold sgm cst gpos
  push_cast
  by_cases hlt : T.val < (tt i).val
  · have e1 : (T.val : ℝ) + 1 ≤ (tt i).val := by exact_mod_cast hlt
    simp only [side, if_pos hlt, show ¬((1 : Fin 2).val < 1) by decide, if_false, neg_mul, Finset.sum_neg_distrib, pos_sum]
    rw [abs_of_nonpos (by linarith), abs_of_nonpos (by linarith)]
    ring
  · have e1 : ((tt i).val : ℝ) + 1 ≤ T.val := by exact_mod_cast (show (tt i).val < T.val by omega)
    simp only [side, if_neg hlt, show ((0 : Fin 2).val < 1) by decide, if_true, pos_sum]
    rw [abs_of_nonneg (by linarith), abs_of_nonneg (by linarith)]
    ring

/-- The score of the point's own tile. -/
theorem scored_own (kr : Fin 8192 → Fin 128 → ℝ) (sl : Ideal .f32) (hsl : sl = ((slq (hh i) : ℝ) : EReal)) (ks : FVec Ideal S1x512x128 .bf16) (ds : FVec Ideal S512x512 .f32) (q : FVec Ideal S1x128x512 .bf16)
    (hk : ∀ r d, ks (ix3 0 r d) = ((kr (gpos (tt i) r) d : ℝ) : EReal))
    (hd : ∀ r p, ds (ix2 r p) = ((|(r.val : ℝ) - p.val| : ℝ) : EReal))
    (hD : ∀ s p, (∑ k : Fin 128, ((kr s k : ℝ) : EReal) * q (ix3 0 k p)) = ((D s p : ℝ) : EReal)) :
    Scored i D (tt i) (k0_pay53 (F := Ideal) sl ks ds q) (k0_pay52 (F := Ideal) sl ks ds q) := by
  refine scored_of i D _ _ _ (fun r p => ?_) (fun p => pay53_at sl ks ds q p)
  rw [pay52_at]
  simp only [hk, hd, hD, hsl]
  rw [show (0 : EReal) = ((0 : ℝ) : EReal) from rfl, ← EReal.coe_sub, ← EReal.coe_mul, ← EReal.coe_add]
  congr 1
  unfold sgm cst gpos
  push_cast
  rw [sub_self, abs_zero, show ((tt i).val : ℝ) * 512 + r.val - ((tt i).val * 512 + p.val) = (r.val : ℝ) - p.val by ring]
  ring

/-- The waiting tile's constant as the body computes it. -/
theorem cj_at (sl : Ideal .f32) (hsl : sl = ((slq (hh i) : ℝ) : EReal)) (T : Fin 16) :
    cj (F := Ideal) i sl (BitVec.ofNat 32 T.val) = ((cst i T : ℝ) : EReal) := by
  show sl * (((Scalar.muli (Scalar.absi (Scalar.subi (BitVec.ofNat 32 T.val) (BitVec.ofNat 32 (tt i).val))) 512#32).toInt : ℝ) : EReal) = _
  rw [dist_word, hsl, ← EReal.coe_mul]
  unfold cst
  push_cast
  rfl
theorem cd_at (sl : Ideal .f32) (hsl : sl = ((slq (hh i) : ℝ) : EReal)) :
    cd (F := Ideal) i sl = ((cst i (tt i) : ℝ) : EReal) := cj_at i sl hsl (tt i)

end Scores

section Loop

variable {i : grid0.Coords} {x0 : Vec Ideal S8 .f32} {x1 : Vec Ideal S1x1x128x512 .bf16} {x2 : Vec Ideal S1x8192x128 .bf16}
    {x3 : Vec Ideal S1x16x128x512 .bf16} {x4 : Vec Ideal S1x128x512 .bf16} {x5 : Vec Ideal S1x2x512x128 .bf16} {x6 : Vec Ideal S512x512 .f32}
    {qr : Fin 128 → Fin 512 → ℝ} {kr : Fin 8192 → Fin 128 → ℝ} {vr : Fin 16 → Fin 128 → Fin 512 → ℝ}
    (B : Blocks i x0 x1 x2 x3 x4 x5 x6 qr kr vr)

/-- The two components' products of a key and a query. -/
def dq0 (qr : Fin 128 → Fin 512 → ℝ) (kr : Fin 8192 → Fin 128 → ℝ) (s : Fin 8192) (p : Fin 512) : ℝ :=
  ∑ d : Fin 64, kr s ⟨d, by omega⟩ * qr ⟨d, by omega⟩ p
def dq1 (qr : Fin 128 → Fin 512 → ℝ) (kr : Fin 8192 → Fin 128 → ℝ) (s : Fin 8192) (p : Fin 512) : ℝ :=
  ∑ d : Fin 64, kr s ⟨64 + d, by omega⟩ * qr ⟨64 + d, by omega⟩ p

/-- The sums over the first `N` tiles taken. -/
def pL (i : grid0.Coords) (D : Fin 8192 → Fin 512 → ℝ) (N : ℕ) (p : Fin 512) : ℝ :=
  ∑ n ∈ Finset.range N, ∑ r, (2 : ℝ) ^ sgm i D (ord (tt i) n) r p
def pA (i : grid0.Coords) (vr : Fin 16 → Fin 128 → Fin 512 → ℝ) (D : Fin 8192 → Fin 512 → ℝ) (N : ℕ) (e : Fin 128) (p : Fin 512) : ℝ :=
  ∑ n ∈ Finset.range N, ∑ r, vr (ord (tt i) n) e r * (2 : ℝ) ^ sgm i D (ord (tt i) n) r p

/-- The state with `N` tiles taken in and the next one scored. -/
structure Good (i : grid0.Coords) (qr : Fin 128 → Fin 512 → ℝ) (kr : Fin 8192 → Fin 128 → ℝ) (vr : Fin 16 → Fin 128 → Fin 512 → ℝ) (N : ℕ) (s : St Ideal) : Prop where
  j : s.j = BitVec.ofNat 32 (ord (tt i) N).val
  d0 : Done (pL i (dq0 qr kr) N) (pA i vr (dq0 qr kr) N) s.m0 s.l0 s.a0
  d1 : Done (pL i (dq1 qr kr) N) (pA i vr (dq1 qr kr) N) s.m1 s.l1 s.a1
  s0 : Scored i (dq0 qr kr) (ord (tt i) N) s.x0 s.s0
  s1 : Scored i (dq1 qr kr) (ord (tt i) N) s.x1 s.s1

theorem pL_succ (D : Fin 8192 → Fin 512 → ℝ) (N : ℕ) :
    (fun p => pL i D N p + ∑ r, (2 : ℝ) ^ sgm i D (ord (tt i) N) r p) = pL i D (N + 1) := by
  funext p; exact (Finset.sum_range_succ _ _).symm
theorem pA_succ (D : Fin 8192 → Fin 512 → ℝ) (N : ℕ) :
    (fun e p => pA i vr D N e p + ∑ r, vr (ord (tt i) N) e r * (2 : ℝ) ^ sgm i D (ord (tt i) N) r p) = pA i vr D (N + 1) := by
  funext e p; exact (Finset.sum_range_succ _ _).symm

/-- The next tile taken in. -/
theorem done_next {D : Fin 8192 → Fin 512 → ℝ} {N : ℕ} {m l x : FVec Ideal S1x512 .f32} {a : FVec Ideal S1x128x512 .f32} {s : FVec Ideal S1x1x512x512 .f32}
    (h : Done (pL i D N) (pA i vr D N) m l a) (hs : Scored i D (ord (tt i) N) x s) {c : Ideal .f32} (hc : c = ((cst i (ord (tt i) N) : ℝ) : EReal))
    {vt : FVec Ideal S1x1x128x512 .bf16} (hv : ∀ e r, vt (ix4 0 0 e r) = ((vr (ord (tt i) N) e r : ℝ) : EReal)) :
    Done (pL i D (N + 1)) (pA i vr D (N + 1)) (k0_pay66 (F := Ideal) m x c) (k0_pay69 (F := Ideal) m l x c s) (k0_pay70 (F := Ideal) m x c vt s a) := by
  rw [← pL_succ, ← pA_succ]
  exact done_step i D h hs hc vr hv

include B

theorem sl_at : slope (F := Ideal) i x0 = ((slq (hh i) : ℝ) : EReal) := (slope_at i x0).trans B.h0

theorem sum0 (s : Fin 8192) (p : Fin 512) :
    (∑ k : Fin 128, ((kr s k : ℝ) : EReal) * q0 (F := Ideal) x1 x4 (ix3 0 ⟨k, by omega⟩ p)) = ((dq0 qr kr s p : ℝ) : EReal) := by
  rw [Fin.sum_univ_two_halves 64 64 rfl]
  have e1 : ∀ k : Fin 64, q0 (F := Ideal) x1 x4 (ix3 0 ⟨k, by omega⟩ p) = ((qr ⟨k, by omega⟩ p : ℝ) : EReal) := fun k => (q0_lo x1 x4 k p).trans (B.h1 _ p)
  have e2 := fun k => q0_hi x1 x4 k p
  simp only [e1, e2, mul_zero, Finset.sum_const_zero, add_zero, ← EReal.coe_mul]
  rw [← coe_sum]; rfl
theorem sum1 (s : Fin 8192) (p : Fin 512) :
    (∑ k : Fin 128, ((kr s k : ℝ) : EReal) * q1 (F := Ideal) x1 x4 (ix3 0 ⟨k, by omega⟩ p)) = ((dq1 qr kr s p : ℝ) : EReal) := by
  rw [Fin.sum_univ_two_halves 64 64 rfl]
  have e1 : ∀ k : Fin 64, q1 (F := Ideal) x1 x4 (ix3 0 ⟨64 + k, by omega⟩ p) = ((qr ⟨64 + k, by omega⟩ p : ℝ) : EReal) := fun k => (q1_hi x1 x4 k p).trans (B.h1 _ p)
  have e2 := fun k => q1_lo x1 x4 k p
  simp only [e1, e2, mul_zero, Finset.sum_const_zero, zero_add, ← EReal.coe_mul]
  rw [← coe_sum]; rfl

omit B in
theorem ord_ne (n : ℕ) (h0 : n ≠ 0) (hn : n < 16) : ord (tt i) n ≠ tt i := by
  have h : ∀ (t n : Fin 16), n.val ≠ 0 → ord t n.val ≠ t := by decide +kernel
  exact h (tt i) ⟨n, hn⟩ h0

/-- A scored tile, for both components. -/
theorem scored0 (N : ℕ) (h0 : N ≠ 0) (hN : N < 16) (ks : FVec Ideal S1x512x128 .bf16) (ps : FVec Ideal S1x1x512x128 .bf16)
    (hk : ∀ r d, ks (ix3 0 r d) = x2 (ix3 0 (gpos (ord (tt i) N) r) d)) (hp : ∀ r k, ps (ix4 0 0 r k) = x5 (ix4 0 (side (tt i) (ord (tt i) N)) r k)) :
    Scored i (dq0 qr kr) (ord (tt i) N) (k0_pay5 (F := Ideal) ks ps (q0 x1 x4)) (k0_pay4 (F := Ideal) ks ps (q0 x1 x4)) :=
  scored_off i _ _ (ord_ne N h0 hN) kr ks ps _ (fun r d => (hk r d).trans (B.h2 _ _)) (fun r k => (hp r k).trans (B.h5 _ _ _))
    (sum0 B) (fun k p => (q0_pos x1 x4 k p).trans (B.h4 k p))
theorem scored1 (N : ℕ) (h0 : N ≠ 0) (hN : N < 16) (ks : FVec Ideal S1x512x128 .bf16) (ps : FVec Ideal S1x1x512x128 .bf16)
    (hk : ∀ r d, ks (ix3 0 r d) = x2 (ix3 0 (gpos (ord (tt i) N) r) d)) (hp : ∀ r k, ps (ix4 0 0 r k) = x5 (ix4 0 (side (tt i) (ord (tt i) N)) r k)) :
    Scored i (dq1 qr kr) (ord (tt i) N) (k0_pay5 (F := Ideal) ks ps (q1 x1 x4)) (k0_pay4 (F := Ideal) ks ps (q1 x1 x4)) :=
  scored_off i _ _ (ord_ne N h0 hN) kr ks ps _ (fun r d => (hk r d).trans (B.h2 _ _)) (fun r k => (hp r k).trans (B.h5 _ _ _))
    (sum1 B) (fun k p => (q1_pos x1 x4 k p).trans (B.h4 k p))

theorem own0 : Scored i (dq0 qr kr) (tt i) (k0_pay53 (F := Ideal) (slope i x0) (keysD i x2) (dist x6) (qt0 x1 x4))
    (k0_pay52 (F := Ideal) (slope i x0) (keysD i x2) (dist x6) (qt0 x1 x4)) :=
  scored_own i _ kr _ (sl_at B) _ _ _ (fun r d => (keysD_at i x2 r d).trans (B.h2 _ _)) (fun r p => (dist_at x6 r p).trans (B.h6 r p))
    (fun s p => by simp only [qt0_at]; exact sum0 B s p)
theorem own1 : Scored i (dq1 qr kr) (tt i) (k0_pay53 (F := Ideal) (slope i x0) (keysD i x2) (dist x6) (qt1 x1 x4))
    (k0_pay52 (F := Ideal) (slope i x0) (keysD i x2) (dist x6) (qt1 x1 x4)) :=
  scored_own i _ kr _ (sl_at B) _ _ _ (fun r d => (keysD_at i x2 r d).trans (B.h2 _ _)) (fun r p => (dist_at x6 r p).trans (B.h6 r p))
    (fun s p => by simp only [qt1_at]; exact sum1 B s p)

omit B in
theorem zero0 (D : Fin 8192 → Fin 512 → ℝ) : Done (pL i D 0) (pA i vr D 0) (k0_pay47 (F := Ideal)) (k0_pay48 (F := Ideal)) (View.ld (k0_pay46 (F := Ideal)) rA0 : Vec Ideal S1x128x512 .f32) := by
  intro e p
  have e1 : k0_pay47 (F := Ideal) (ix2 0 p) = (⊥ : EReal) := by pointwise [k0_pay47, lit_bot]
  have e2 : k0_pay48 (F := Ideal) (ix2 0 p) = (0 : EReal) := by pointwise [k0_pay48]
  have e3 : (View.ld (k0_pay46 (F := Ideal)) rA0 : Vec Ideal S1x128x512 .f32) (ix3 0 e p) = (0 : EReal) := Ideal.ofBits_zero_f32
  rw [e1, e2, e3]
  exact holds_start
omit B in
theorem zero1 (D : Fin 8192 → Fin 512 → ℝ) : Done (pL i D 0) (pA i vr D 0) (k0_pay47 (F := Ideal)) (k0_pay48 (F := Ideal)) (View.ld (k0_pay46 (F := Ideal)) rA1 : Vec Ideal S1x128x512 .f32) := zero0 D

/-- Before the loop. -/
theorem good_start : Good i qr kr vr 1 (start (F := Ideal) i x0 x1 x2 x3 x4 x5 x6) where
  j := (start_j i x2 x3 x5 x0 x1 x4 x6).trans (word0_eq i)
  d0 := by
    rw [start_m0, start_l0, start_a0]
    exact done_next (N := 0) (zero0 _) (own0 B) (cd_at i _ (sl_at B)) (fun e r => (valsD_at i x3 e r).trans (B.h3 _ e r))
  d1 := by
    rw [start_m1, start_l1, start_a1]
    exact done_next (N := 0) (zero1 _) (own1 B) (cd_at i _ (sl_at B)) (fun e r => (valsD_at i x3 e r).trans (B.h3 _ e r))
  s0 := by
    rw [start_mx0, start_s0]
    exact scored0 B 1 (by norm_num) (by norm_num) _ _ (keys0_at i x2) (pos0_at i x5)
  s1 := by
    rw [start_mx1, start_s1]
    exact scored1 B 1 (by norm_num) (by norm_num) _ _ (keys0_at i x2) (pos0_at i x5)

theorem good_half (k : Fin k0_t1_loop.trips) (s : St Ideal) (h : Good i qr kr vr (2 * k.val + 1) s) :
    Good i qr kr vr (2 * k.val + 2) (half i (slope i x0) x2 x3 x5 (q0 x1 x4) (q1 x1 x4) k s) := by
  have hk : k.val < 7 := k.isLt.trans_eq trips_eq
  have hc : cj i (slope i x0) s.j = ((cst i (ord (tt i) (2 * k.val + 1)) : ℝ) : EReal) := by rw [h.j]; exact cj_at i _ (sl_at B) _
  have hv : ∀ e r, vTile i x3 s.j (ix4 0 0 e r) = ((vr (ord (tt i) (2 * k.val + 1)) e r : ℝ) : EReal) := fun e r => by
    rw [h.j, vTile_at]; exact B.h3 _ e r
  constructor
  · rw [half_j]; exact wordA_eq i k
  · rw [half_m0, half_l0, half_a0]; exact done_next h.d0 h.s0 hc hv
  · rw [half_m1, half_l1, half_a1]; exact done_next h.d1 h.s1 hc hv
  · rw [half_mx0, half_s0]; exact scored0 B (2 * k.val + 2) (by omega) (by omega) _ _ (keysA_at i x2 k) (posA_at i x5 k)
  · rw [half_mx1, half_s1]; exact scored1 B (2 * k.val + 2) (by omega) (by omega) _ _ (keysA_at i x2 k) (posA_at i x5 k)

theorem good_half' (k : Fin k0_t1_loop.trips) (s : St Ideal) (h : Good i qr kr vr (2 * k.val + 2) s) :
    Good i qr kr vr (2 * k.val + 3) (half' i (slope i x0) x2 x3 x5 (q0 x1 x4) (q1 x1 x4) k s) := by
  have hk : k.val < 7 := k.isLt.trans_eq trips_eq
  have hc : cj i (slope i x0) s.j = ((cst i (ord (tt i) (2 * k.val + 2)) : ℝ) : EReal) := by rw [h.j]; exact cj_at i _ (sl_at B) _
  have hv : ∀ e r, valsA i x3 k (ix4 0 0 e r) = ((vr (ord (tt i) (2 * k.val + 2)) e r : ℝ) : EReal) := fun e r =>
    (valsA_at i x3 k e r).trans (B.h3 _ e r)
  constructor
  · rw [half'_j]; exact wordB_eq i k
  · rw [half'_m0, half'_l0, half'_a0]; exact done_next h.d0 h.s0 hc hv
  · rw [half'_m1, half'_l1, half'_a1]; exact done_next h.d1 h.s1 hc hv
  · rw [half'_mx0, half'_s0]; exact scored0 B (2 * k.val + 3) (by omega) (by omega) _ _ (keysB_at i x2 k) (posB_at i x5 k)
  · rw [half'_mx1, half'_s1]; exact scored1 B (2 * k.val + 3) (by omega) (by omega) _ _ (keysB_at i x2 k) (posB_at i x5 k)

/-- The state before trip `k`. -/
theorem good_at : ∀ k, k ≤ k0_t1_loop.trips → Good i qr kr vr (2 * k + 1)
    (stAt i (slope i x0) x2 x3 x5 (q0 x1 x4) (q1 x1 x4) (start (F := Ideal) i x0 x1 x2 x3 x4 x5 x6) k)
  | 0, _ => by rw [stAt_zero]; exact good_start B
  | k + 1, h => by
    have e := stAt_succ i (slope i x0) x2 x3 x5 (q0 x1 x4) (q1 x1 x4) (start (F := Ideal) i x0 x1 x2 x3 x4 x5 x6) ⟨k, h⟩
    dsimp only at e
    rw [e]
    exact good_half' B ⟨k, h⟩ _ (good_half B ⟨k, h⟩ _ (good_at k (by omega)))

omit B in
/-- The weights' sum and the weighted sum of the values over the whole sequence. -/
theorem pL_all (D : Fin 8192 → Fin 512 → ℝ) (p : Fin 512) : pL i D 16 p = ∑ T : Fin 16, ∑ r, (2 : ℝ) ^ sgm i D T r p :=
  sum_ord (tt i) fun T => ∑ r, (2 : ℝ) ^ sgm i D T r p
omit B in
theorem pA_all (D : Fin 8192 → Fin 512 → ℝ) (e : Fin 128) (p : Fin 512) : pA i vr D 16 e p = ∑ T : Fin 16, ∑ r, vr T e r * (2 : ℝ) ^ sgm i D T r p :=
  sum_ord (tt i) fun T => ∑ r, vr T e r * (2 : ℝ) ^ sgm i D T r p

omit B in
theorem pL_pos (D : Fin 8192 → Fin 512 → ℝ) (p : Fin 512) : 0 < pL i D 16 p := by
  refine Finset.sum_pos (fun n _ => Finset.sum_pos (fun r _ => Real.rpow_pos_of_pos (by norm_num) _) ⟨0, Finset.mem_univ _⟩) ⟨0, by simp⟩

/-- What the end takes: the two components' quotients. -/
theorem quotients (s : St Ideal) (hs : s = stAt i (slope i x0) x2 x3 x5 (q0 x1 x4) (q1 x1 x4) (start (F := Ideal) i x0 x1 x2 x3 x4 x5 x6) k0_t1_loop.trips)
    (e : Fin 128) (p : Fin 512) :
    Ideal.div (k0_pay70 (F := Ideal) s.m0 s.x0 (cj i (slope i x0) s.j) (vTile i x3 s.j) s.s0 s.a0 (ix3 0 e p))
        (k0_pay69 (F := Ideal) s.m0 s.l0 s.x0 (cj i (slope i x0) s.j) s.s0 (ix2 0 p))
      = ((pA i vr (dq0 qr kr) 16 e p / pL i (dq0 qr kr) 16 p : ℝ) : EReal)
    ∧ Ideal.div (k0_pay70 (F := Ideal) s.m1 s.x1 (cj i (slope i x0) s.j) (vTile i x3 s.j) s.s1 s.a1 (ix3 0 e p))
        (k0_pay69 (F := Ideal) s.m1 s.l1 s.x1 (cj i (slope i x0) s.j) s.s1 (ix2 0 p))
      = ((pA i vr (dq1 qr kr) 16 e p / pL i (dq1 qr kr) 16 p : ℝ) : EReal) := by
  have h := good_at B k0_t1_loop.trips le_rfl
  rw [← hs] at h
  rw [show 2 * k0_t1_loop.trips + 1 = 15 by rw [trips_eq]] at h
  have hc : cj i (slope i x0) s.j = ((cst i (ord (tt i) 15) : ℝ) : EReal) := by rw [h.j]; exact cj_at i _ (sl_at B) _
  have hv : ∀ e r, vTile i x3 s.j (ix4 0 0 e r) = ((vr (ord (tt i) 15) e r : ℝ) : EReal) := fun e r => by
    rw [h.j, vTile_at]; exact B.h3 _ e r
  exact ⟨holds_quot (done_next h.d0 h.s0 hc hv e p) (pL_pos _ p), holds_quot (done_next h.d1 h.s1 hc hv e p) (pL_pos _ p)⟩

end Loop

end Cert.AttnIdeal.Mix

end
-- ==== Proof.AttnRef.lean ====
/- The attention reference, read at one entry of its result: a softmax over the whole sequence, as real numbers. -/
module

public import proofs.«01_k».proof.Proof.AttnHost
public import proofs.«01_k».proof.Proof.AttnMath
public import proofs.«01_k».proof.Proof.Gen.AttnRefIdeal.Read

@[expose] public section

set_option maxRecDepth 16384

noncomputable section

namespace Cert.AttnRefIdeal.Mix

open Idealize.ShloMosaic Idealize.ShloMosaic.TcCoe Idealize.SL.Sem
open Cert.AttnRefIdeal Cert.AttnRefIdeal.Gen Cert.AttnRefIdeal.Read Cert.Softmax
open Cert.AttnIdeal.Mix (slp slope_val abs_word)

/-- The normalisation, gain and factor at the end, over one head's values. -/
def tail (o : Fin 128 → EReal) (g : EReal) (e : Fin 128) : EReal :=
  o e * Ideal.rsqrt (Ideal.div (∑ k, o k * o k) (Ideal.ofBits .f32 0x43000000#32) + Ideal.ofBits .f32 0x358637BD#32) * g * Ideal.ofBits .f32 0x3F24FD5C#32

/-- The weight of the second component. -/
def lam (x3 x4 x5 x6 : Fin 64 → EReal) : EReal :=
  Ideal.exp (∑ d, x3 d * x4 d) - Ideal.exp (∑ d, x5 d * x6 d) + Ideal.ofBits .f32 0x3EB60549#32

section Stages

variable (x0 x1 x2 : FVec Ideal S8x8192x1024 .f32) (x3 x4 x5 x6 : FVec Ideal S64 .f32) (x7 : FVec Ideal S128 .f32)

/-- A head's feature in the flat width. -/
def feat (h : Fin 8) (c : Fin 2) (d : Fin 64) : Fin 1024 := ⟨h.val * 128 + (c.val * 64 + d.val), by omega⟩
def vfeat (h : Fin 8) (e : Fin 128) : Fin 1024 := ⟨h.val * 128 + e.val, by omega⟩

theorem v14_at (b : Fin 8) (s : Fin 8192) (h : Fin 8) (c : Fin 2) (d : Fin 64) :
    val_main_v14 (F := Ideal) x0 (ix5 b s h c d) = x0 (ix3 b s (feat h c d)) := by
  rw [val_main_v14_apply]
  congr 1
  funext a; apply Fin.ext; fin_cases a <;> simp [ix3, ix5, feat, idx_main_v14] <;> omega
theorem v15_at (b : Fin 8) (s : Fin 8192) (h : Fin 8) (c : Fin 2) (d : Fin 64) :
    val_main_v15 (F := Ideal) x1 (ix5 b s h c d) = x1 (ix3 b s (feat h c d)) := v14_at x1 b s h c d
theorem v16_at (b : Fin 8) (s : Fin 8192) (h : Fin 8) (e : Fin 128) :
    val_main_v16 (F := Ideal) x2 (ix4 b s h e) = x2 (ix3 b s (vfeat h e)) := by
  rw [val_main_v16_apply]
  congr 1
  funext a; apply Fin.ext; fin_cases a <;> simp [ix3, ix4, vfeat, idx_main_v16] <;> omega

theorem v33_at (h : Fin 8) (p s : Fin 8192) :
    val_main_v33 (F := Ideal) (ix3 h p s) = ((-slp h * |(p.val : ℝ) - s.val| : ℝ) : EReal) := by
  have e1 : val_main_v31 (F := Ideal) (ix3 h p s) = ((-slp h : ℝ) : EReal) := by
    rw [val_main_v31_apply, val_main_v29_apply, val_main_v28_apply]
    have : val_main_v13 (F := Ideal) (idx_main_v28 (idx_main_v31 (ix3 h p s))) = ((slp h : ℝ) : EReal) := by
      rw [val_main_v13_apply, val_main_v12_apply, val_main_cst_2_apply, val_main_v11_apply, val_main_v10_apply, val_main_v9_apply, val_main_c_apply, val_main_v8_apply]
      refine Eq.trans ?_ (slope_val h)
      show Ideal.div (Ideal.ofBits .f32 0x3F800000#32) _ = _
      rw [Ideal.ofBits_one_f32]
      rfl
    rw [this]; rfl
  have e2 : val_main_v32 (F := Ideal) (ix3 h p s) = ((|(p.val : ℝ) - s.val| : ℝ) : EReal) := by
    rw [val_main_v32_apply, val_main_v30_apply, val_main_v27_apply, val_main_v26_apply, val_main_v25_apply, val_main_v23_apply, val_main_v24_apply,
      val_main_v21_apply, val_main_v22_apply, val_main_v20_apply, val_main_v20_apply]
    exact abs_word p.val s.val p.isLt s.isLt
  rw [val_main_v33_apply, e1, e2]
  exact (EReal.coe_mul _ _).symm

variable {Q K W : Fin 8 → Fin 8192 → Fin 1024 → ℝ}

/-- The score of key `s` for query `p`. -/
def sc (Q K : Fin 8 → Fin 8192 → Fin 1024 → ℝ) (b h : Fin 8) (c : Fin 2) (p s : Fin 8192) : ℝ :=
  (∑ d : Fin 64, Q b p (feat h c d) * K b s (feat h c d)) * (1 / 8) + -slp h * |(p.val : ℝ) - s.val|

/-- The softmax weight. -/
def wt (Q K : Fin 8 → Fin 8192 → Fin 1024 → ℝ) (b h : Fin 8) (c : Fin 2) (p s : Fin 8192) : ℝ :=
  Real.exp (sc Q K b h c p s) / ∑ s', Real.exp (sc Q K b h c p s')

variable (h0 : ∀ b s f, x0 (ix3 b s f) = ((Q b s f : ℝ) : EReal)) (h1 : ∀ b s f, x1 (ix3 b s f) = ((K b s f : ℝ) : EReal))
  (h2 : ∀ b s f, x2 (ix3 b s f) = ((W b s f : ℝ) : EReal))

include h0 h1

theorem v36_at (b h : Fin 8) (c : Fin 2) (p s : Fin 8192) :
    val_main_v36 (F := Ideal) x0 x1 (ix5 b h c p s) = ((sc Q K b h c p s : ℝ) : EReal) := by
  have e1 : val_main_v17 (F := Ideal) x0 x1 (ix5 b h c p s) = ((∑ d : Fin 64, Q b p (feat h c d) * K b s (feat h c d) : ℝ) : EReal) := by
    rw [val_main_v17_apply, coe_sum]
    refine Finset.sum_congr rfl fun d _ => ?_
    have el : lidx_main_v17 (ix5 b h c p s) d = ix5 b p h c d := by funext a; fin_cases a <;> rfl
    have er : ridx_main_v17 (ix5 b h c p s) d = ix5 b s h c d := by funext a; fin_cases a <;> rfl
    rw [el, er, v14_at, v15_at, h0, h1, ← EReal.coe_mul]
  have e2 : val_main_v35 (F := Ideal) (ix5 b h c p s) = ((-slp h * |(p.val : ℝ) - s.val| : ℝ) : EReal) := by
    rw [val_main_v35_apply, val_main_v34_apply, show idx_main_v34 (idx_main_v35 (ix5 b h c p s)) = ix3 h p s by funext a; fin_cases a <;> rfl, v33_at]
  rw [val_main_v36_apply, val_main_v19_apply, val_main_v18_apply, val_main_cst_3_apply, e1, e2]
  show ((_ : ℝ) : EReal) * Ideal.ofBits .f32 0x3E000000#32 + _ = _
  rw [lit_eighth, ← EReal.coe_mul, ← EReal.coe_add]
  rfl

theorem v39_at (b h : Fin 8) (c : Fin 2) (p : Fin 8192) : ∃ M : ℝ, val_main_v39 (F := Ideal) x0 x1 (ix4 b h c p) = (M : EReal) := by
  have e : val_main_v37 (F := Ideal) x0 x1 (ix4 b h c p)
      = Finset.fold max (⊥ : EReal) (fun s : Fin 8192 => val_main_v36 (F := Ideal) x0 x1 (ix5 b h c p s)) Finset.univ := by
    unfold val_main_v37
    generalize val_main_v36 (F := Ideal) x0 x1 = y
    have hr : S8x8x2x8192x8192.Reduces [4] S8x8x2x8192 := by decide
    refine (Host.reduce_eq_fold_single (f := (max : EReal → EReal → EReal)) y (val_main_cst_4 (F := Ideal)) _ hr _ _).trans ?_
    rw [val_main_cst_4_apply]
    show Finset.fold max (Ideal.ofBits .f32 0xFF800000#32) _ _ = _
    rw [lit_bot]
    congr 1
    funext s
    show y _ = y _
    congr 1
    funext a; apply Fin.ext; fin_cases a <;> rfl
  obtain ⟨M, hM⟩ := fold_max_real (by norm_num : 0 < 8192) (fun s : Fin 8192 => val_main_v36 (F := Ideal) x0 x1 (ix5 b h c p s)) _ fun s => v36_at x0 x1 h0 h1 b h c p s
  refine ⟨M, ?_⟩
  rw [val_main_v39_apply, val_main_v38_apply, val_main_cst_5_apply, e, hM]
  show max (Ideal.ofBits .f32 0xFF800000#32) (M : EReal) = M
  rw [lit_bot, max_eq_right bot_le]

theorem v47_at (b h : Fin 8) (c : Fin 2) (p s : Fin 8192) :
    val_main_v47 (F := Ideal) x0 x1 (ix5 b h c p s) = ((wt Q K b h c p s : ℝ) : EReal) := by
  obtain ⟨M, hM⟩ := v39_at x0 x1 h0 h1 b h c p
  have e1 : ∀ s, val_main_v43 (F := Ideal) x0 x1 (ix5 b h c p s) = ((Real.exp (sc Q K b h c p s - M) : ℝ) : EReal) := fun s => by
    rw [val_main_v43_apply, val_main_v42_apply, val_main_v41_apply, val_main_v40_apply,
      show idx_main_v40 (idx_main_v41 (ix5 b h c p s)) = ix4 b h c p by funext a; fin_cases a <;> rfl, hM, v36_at x0 x1 h0 h1]
    show Ideal.exp (((_ : ℝ) : EReal) - ((_ : ℝ) : EReal)) = _
    rw [← EReal.coe_sub, Ideal.exp_coe]
  have e2 : val_main_v46 (F := Ideal) x0 x1 (ix5 b h c p s) = ((∑ s, Real.exp (sc Q K b h c p s - M) : ℝ) : EReal) := by
    rw [val_main_v46_apply, val_main_v45_apply, val_main_v44_apply, val_main_cst_6_apply, coe_sum]
    show Ideal.ofBits .f32 0x00000000#32 + _ = _
    rw [Ideal.ofBits_zero_f32, zero_add]
    refine Finset.sum_congr rfl fun k _ => ?_
    rw [show idx_main_v44 (idx_main_v45 (idx_main_v46 (ix5 b h c p s))) k = ix5 b h c p k by funext a; fin_cases a <;> rfl, e1]
  have hpos : ∀ f : Fin 8192 → ℝ, 0 < ∑ s, Real.exp (f s) := fun f =>
    Finset.sum_pos (fun s _ => Real.exp_pos _) ⟨0, Finset.mem_univ _⟩
  rw [val_main_v47_apply, e1, e2]
  show Ideal.div ((_ : ℝ) : EReal) ((_ : ℝ) : EReal) = _
  rw [Cert.AttnIdeal.Mix.div_real _ _ (hpos _).ne']
  refine congrArg (fun r : ℝ => (r : EReal)) ?_
  simp only [Real.exp_sub, ← Finset.sum_div]
  unfold wt
  rw [div_div_div_cancel_right₀ (Real.exp_ne_zero M)]

omit h0 h1 in
theorem v7_at (i : S_.Idx) : val_main_v7 (F := Ideal) x3 x4 x5 x6 i = lam (fun d => x3 (ix1 d)) (fun d => x4 (ix1 d)) (fun d => x5 (ix1 d)) (fun d => x6 (ix1 d)) := by
  have hs : ∀ f : S64.Idx → EReal, ∑ j, f j = ∑ d : Fin 64, f (ix1 d) := fun f =>
    (Fintype.sum_equiv ⟨fun d : Fin 64 => (ix1 d : S64.Idx), fun j => j 0, fun d => rfl, fun j => by funext a; fin_cases a; rfl⟩ _ _ fun d => rfl).symm
  rw [val_main_v7_apply, val_main_v6_apply, val_main_v2_apply, val_main_v5_apply, val_main_v1_apply, val_main_v4_apply, val_main_cst_1_apply,
    val_main_cst_apply, val_main_cst_0_apply, hs, hs]
  show Ideal.exp (Ideal.ofBits .f32 0x00000000#32 + _) - Ideal.exp (Ideal.ofBits .f32 0x00000000#32 + _) + _ = _
  rw [Ideal.ofBits_zero_f32, zero_add, zero_add]
  rfl

variable {Lr : ℝ} (hl : lam (fun d => x3 (ix1 d)) (fun d => x4 (ix1 d)) (fun d => x5 (ix1 d)) (fun d => x6 (ix1 d)) = ((Lr : ℝ) : EReal))

include hl

theorem v54_at (b h : Fin 8) (p s : Fin 8192) :
    val_main_v54 (F := Ideal) x0 x1 x3 x4 x5 x6 (ix4 b h p s) = ((wt Q K b h 0 p s - Lr * wt Q K b h 1 p s : ℝ) : EReal) := by
  have i0 : idx_main_v48 (idx_main_v49 (ix4 b h p s)) = ix5 b h 0 p s := by
    funext a; apply Fin.ext; fin_cases a <;> simp [ix4, ix5, idx_main_v48, idx_main_v49] <;> omega
  have i1 : idx_main_v50 (idx_main_v51 (ix4 b h p s)) = ix5 b h 1 p s := by
    funext a; apply Fin.ext; fin_cases a <;> simp [ix4, ix5, idx_main_v50, idx_main_v51] <;> omega
  rw [val_main_v54_apply, val_main_v53_apply, val_main_v52_apply, val_main_v49_apply, val_main_v48_apply, val_main_v51_apply, val_main_v50_apply, i0, i1,
    v47_at x0 x1 h0 h1, v47_at x0 x1 h0 h1, v7_at, hl]
  show ((_ : ℝ) : EReal) - ((_ : ℝ) : EReal) * ((_ : ℝ) : EReal) = _
  rw [← EReal.coe_mul, ← EReal.coe_sub]

/-- The mixed values of a head. -/
def mixed (Q K W : Fin 8 → Fin 8192 → Fin 1024 → ℝ) (Lr : ℝ) (b h : Fin 8) (p : Fin 8192) (e : Fin 128) : ℝ :=
  ∑ s, W b s (vfeat h e) * (wt Q K b h 0 p s - Lr * wt Q K b h 1 p s)

include h2

theorem v56_at (b : Fin 8) (p : Fin 8192) (h : Fin 8) (e : Fin 128) :
    val_main_v56 (F := Ideal) x0 x1 x2 x3 x4 x5 x6 (ix4 b p h e) = ((mixed Q K W Lr b h p e : ℝ) : EReal) := by
  rw [val_main_v56_apply, val_main_v55_apply]
  unfold mixed
  rw [coe_sum]
  refine Finset.sum_congr rfl fun s _ => ?_
  rw [show lidx_main_v55 (idx_main_v56 (ix4 b p h e)) s = ix4 b s h e by funext a; fin_cases a <;> rfl,
    show ridx_main_v55 (idx_main_v56 (ix4 b p h e)) s = ix4 b h p s by funext a; fin_cases a <;> rfl, v16_at, h2,
    v54_at x0 x1 x3 x4 x5 x6 h0 h1 hl, ← EReal.coe_mul]

/-- An entry of the result. -/
theorem out_at (b : Fin 8) (p : Fin 8192) (h : Fin 8) (e : Fin 128) :
    val_main_v73 (F := Ideal) x0 x1 x2 x3 x4 x5 x6 x7 (ix3 b p (vfeat h e))
      = tail (fun k => ((mixed Q K W Lr b h p k : ℝ) : EReal)) (x7 (ix1 e)) e := by
  have i72 : idx_main_v72 (ix3 b p (vfeat h e)) = ix4 b p h e := by
    funext a; apply Fin.ext; fin_cases a <;> simp [ix3, ix4, vfeat, idx_main_v72] <;> omega
  have e58 : val_main_v58 (F := Ideal) x0 x1 x2 x3 x4 x5 x6 (ix3 b p h)
      = ∑ k, ((mixed Q K W Lr b h p k : ℝ) : EReal) * ((mixed Q K W Lr b h p k : ℝ) : EReal) := by
    rw [val_main_v58_apply, val_main_cst_7_apply]
    show Ideal.ofBits .f32 0x00000000#32 + _ = _
    rw [Ideal.ofBits_zero_f32, zero_add]
    refine Finset.sum_congr rfl fun k _ => ?_
    rw [show idx_main_v58 (ix3 b p h) k = ix4 b p h k by funext a; fin_cases a <;> rfl, val_main_v57_apply, v56_at x0 x1 x2 x3 x4 x5 x6 h0 h1 h2 hl]
    rfl
  have e65 : val_main_v65 (F := Ideal) x0 x1 x2 x3 x4 x5 x6 (ix4 b p h e)
      = Ideal.rsqrt (Ideal.div (∑ k, ((mixed Q K W Lr b h p k : ℝ) : EReal) * ((mixed Q K W Lr b h p k : ℝ) : EReal)) (Ideal.ofBits .f32 0x43000000#32) + Ideal.ofBits .f32 0x358637BD#32) := by
    rw [val_main_v65_apply, val_main_v64_apply, val_main_v63_apply, val_main_v61_apply, val_main_v59_apply, val_main_v60_apply, val_main_v62_apply,
      val_main_cst_8_apply, val_main_cst_9_apply, show idx_main_v59 (idx_main_v65 (ix4 b p h e)) = ix3 b p h by funext a; fin_cases a <;> rfl, e58]
    rfl
  rw [val_main_v73_apply, val_main_v72_apply, i72, val_main_v71_apply, val_main_v69_apply, val_main_v66_apply, val_main_v70_apply, val_main_cst_10_apply,
    val_main_v68_apply, val_main_v67_apply, e65, v56_at x0 x1 x2 x3 x4 x5 x6 h0 h1 h2 hl,
    show idx_main_v67 (idx_main_v68 (ix4 b p h e)) = ix1 e by funext a; fin_cases a; rfl]
  rfl

end Stages

end Cert.AttnRefIdeal.Mix

end
-- ==== Proof.AttnFinite.lean ====
/- What the precondition of the attention claim gives: every entry of the arrays is a real number, and so is the weight
   of the second component. -/
module

public import proofs.«01_k».proof.Pre_finite
public import proofs.«01_k».proof.Proof.AttnMath
public import proofs.«01_k».proof.Proof.AttnConst
public import Idealize.ShloMosaic.Lib.ReduceAll
public import Idealize.ShloMosaic.Lib.Claim
public import Idealize.ShloMosaic.Lib.Pointwise

@[expose] public section

set_option maxRecDepth 16384

noncomputable section

namespace Cert.Pre_finite

open Idealize.ShloMosaic Cert.Softmax

/-- The side conditions hold. -/
theorem facts : Facts where
  bcast_S_S8x8192x1024 := by decide
  reducesTo_S8x8192x1024_S_d0_1_2 := by decide
  h_S_ := by decide
  bcast_S_S64 := by decide
  reducesTo_S64_S_d0 := by decide

/-- A magnitude below infinity is a real number's. -/
theorem real_of_lt (x : EReal) (h : max x (-x) < ⊤) : ∃ r : ℝ, x = (r : EReal) := by
  induction x using EReal.rec with
  | bot => simp at h
  | coe r => exact ⟨r, rfl⟩
  | top => simp at h

/-- One comparison of the precondition. -/
theorem real_of_cmp (x : EReal) (h : Ideal.cmp .olt (max x (-x)) (Ideal.ofBits .f32 0x7F800000#32) = 1#1) : ∃ r : ℝ, x = (r : EReal) := by
  rw [lit_top] at h
  refine real_of_lt x ?_
  by_contra hn
  simp [Ideal.cmp, hn] at h

section Holds

variable (x0 x1 x2 : FVec Ideal S8x8192x1024 .f32) (x3 x4 x5 x6 : FVec Ideal S64 .f32) (x7 : FVec Ideal S128 .f32)

/-- The precondition, read: every entry of the first seven arrays is a real number. -/
theorem reals (h : @fn facts Ideal _ x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal)) ∧ (∀ i, ∃ r : ℝ, x6 i = (r : EReal)) := by
  have h' := congrFun h ValueIdx.ix0
  unfold fn fn_part1 at h'
  obtain ⟨h', a6⟩ := IntOp.andi_eq_one.1 h'
  obtain ⟨h', a5⟩ := IntOp.andi_eq_one.1 h'
  obtain ⟨h', a4⟩ := IntOp.andi_eq_one.1 h'
  obtain ⟨h', a3⟩ := IntOp.andi_eq_one.1 h'
  obtain ⟨h', a2⟩ := IntOp.andi_eq_one.1 h'
  obtain ⟨a0, a1⟩ := IntOp.andi_eq_one.1 h'
  exact ⟨fun i => real_of_cmp _ (Host.reduce_andi_all _ _ _ _ _ a0 i), fun i => real_of_cmp _ (Host.reduce_andi_all _ _ _ _ _ a1 i),
    fun i => real_of_cmp _ (Host.reduce_andi_all _ _ _ _ _ a2 i), fun i => real_of_cmp _ (Host.reduce_andi_all _ _ _ _ _ a3 i),
    fun i => real_of_cmp _ (Host.reduce_andi_all _ _ _ _ _ a4 i), fun i => real_of_cmp _ (Host.reduce_andi_all _ _ _ _ _ a5 i),
    fun i => real_of_cmp _ (Host.reduce_andi_all _ _ _ _ _ a6 i)⟩

end Holds

end Cert.Pre_finite

end
-- ==== Proof.AttnValue.lean ====
/- The attention call's result array is the reference's function of the argument arrays. -/
module

public import proofs.«01_k».proof.Proof.AttnLoop
public import proofs.«01_k».proof.Proof.AttnRef
public import proofs.«01_k».proof.Proof.AttnFinite

@[expose] public section

set_option maxRecDepth 16384

noncomputable section

namespace Cert.AttnIdeal.Mix

open Idealize.ShloMosaic Idealize.ShloMosaic.TcCoe Idealize.SL.Sem
open Cert.AttnIdeal Cert.AttnIdeal.Gen Cert.Softmax
open Cert.AttnRefIdeal.Mix (tail lam feat vfeat sc wt mixed)

/-- The end of the body at one entry. -/
theorem end_at (l0 l1 : FVec Ideal S1x512 .f32) (w : Vec Ideal S4x64 .f32) (a0 a1 : Vec Ideal S1x128x512 .f32) (g : Vec Ideal S128x1 .f32) (p : Fin 512) (e : Fin 128) :
    k0_pay1 (F := Ideal) (k0_pay91 l0 l1 w a0 a1 g) (ix3 0 p e)
      = tail (fun k => Ideal.div (a0 (ix3 0 k p)) (l0 (ix2 0 p))
          - lam (fun d => w (ix2 0 d)) (fun d => w (ix2 1 d)) (fun d => w (ix2 2 d)) (fun d => w (ix2 3 d)) * Ideal.div (a1 (ix3 0 k p)) (l1 (ix2 0 p)))
        (g (ix2 e 0)) e := by
  pointwise [k0_pay1, k0_pay91]
  rfl

/-- A base-two power of a score in base-two logarithms. -/
theorem two_rpow (x : ℝ) : (2 : ℝ) ^ (x / Real.log 2) = Real.exp x := by
  rw [Real.rpow_def_of_pos (by norm_num), mul_div_cancel₀ _ log_two_ne]

section Math

variable (i : grid0.Coords) (Q K W : Fin 8 → Fin 8192 → Fin 1024 → ℝ)

/-- The query, key and value blocks of a point. -/
def qB (d : Fin 128) (p : Fin 512) : ℝ := Q (bb i) (gpos (tt i) p) (vfeat (hh i) d) * (1 / 8 / Real.log 2)
def kB (s : Fin 8192) (d : Fin 128) : ℝ := K (bb i) s (vfeat (hh i) d)
def vB (T : Fin 16) (e : Fin 128) (r : Fin 512) : ℝ := W (bb i) (gpos T r) (vfeat (hh i) e)

theorem sig_of (D : Fin 8192 → Fin 512 → ℝ) (c : Fin 2)
    (hD : ∀ s p, D s p = ∑ d : Fin 64, K (bb i) s (feat (hh i) c d) * (Q (bb i) (gpos (tt i) p) (feat (hh i) c d) * (1 / 8 / Real.log 2)))
    (T : Fin 16) (r p : Fin 512) : (2 : ℝ) ^ sgm i D T r p = Real.exp (sc Q K (bb i) (hh i) c (gpos (tt i) p) (gpos T r)) := by
  rw [← two_rpow]
  congr 1
  unfold sgm sc slq
  rw [hD, abs_sub_comm ((gpos T r).val : ℝ), add_div, Finset.sum_mul, Finset.sum_div, sub_eq_add_neg]
  congr 1
  · exact Finset.sum_congr rfl fun d _ => by ring
  · ring

theorem quot_of (D : Fin 8192 → Fin 512 → ℝ) (c : Fin 2)
    (hD : ∀ s p, D s p = ∑ d : Fin 64, K (bb i) s (feat (hh i) c d) * (Q (bb i) (gpos (tt i) p) (feat (hh i) c d) * (1 / 8 / Real.log 2)))
    (e : Fin 128) (p : Fin 512) : pA i (vB i W) D 16 e p / pL i D 16 p
      = ∑ s, W (bb i) s (vfeat (hh i) e) * wt Q K (bb i) (hh i) c (gpos (tt i) p) s := by
  have eL : pL i D 16 p = ∑ s, Real.exp (sc Q K (bb i) (hh i) c (gpos (tt i) p) s) := by
    rw [pL_all, Fin.sum_univ_tiles 16 512 rfl]
    exact Finset.sum_congr rfl fun T _ => Finset.sum_congr rfl fun r _ => sig_of i Q K D c hD T r p
  have eA : pA i (vB i W) D 16 e p = ∑ s, W (bb i) s (vfeat (hh i) e) * Real.exp (sc Q K (bb i) (hh i) c (gpos (tt i) p) s) := by
    rw [pA_all, Fin.sum_univ_tiles 16 512 rfl]
    exact Finset.sum_congr rfl fun T _ => Finset.sum_congr rfl fun r _ => by rw [sig_of i Q K D c hD T r p]; rfl
  rw [eL, eA, Finset.sum_div]
  refine Finset.sum_congr rfl fun s _ => ?_
  unfold wt
  ring

theorem dq0_of (s : Fin 8192) (p : Fin 512) : dq0 (qB i Q) (kB i K) s p
    = ∑ d : Fin 64, K (bb i) s (feat (hh i) 0 d) * (Q (bb i) (gpos (tt i) p) (feat (hh i) 0 d) * (1 / 8 / Real.log 2)) := by
  unfold dq0 kB qB
  refine Finset.sum_congr rfl fun d _ => ?_
  rw [show vfeat (hh i) ⟨d, by omega⟩ = feat (hh i) 0 d from Fin.ext (by simp [vfeat, feat])]
theorem dq1_of (s : Fin 8192) (p : Fin 512) : dq1 (qB i Q) (kB i K) s p
    = ∑ d : Fin 64, K (bb i) s (feat (hh i) 1 d) * (Q (bb i) (gpos (tt i) p) (feat (hh i) 1 d) * (1 / 8 / Real.log 2)) := by
  unfold dq1 kB qB
  refine Finset.sum_congr rfl fun d _ => ?_
  rw [show vfeat (hh i) ⟨64 + d, by omega⟩ = feat (hh i) 1 d from Fin.ext (by simp [vfeat, feat])]

end Math

section Array

variable (m : (ℓ : Loc nD τ sig) → Buf (Elt Ideal) ℓ) (c : Dev nD)

/-- The arrays hold real numbers, and so does the second component's weight. -/
structure Reals (Q K W : Fin 8 → Fin 8192 → Fin 1024 → ℝ) (Lr : ℝ) : Prop where
  q : ∀ b s f, (show FVec Ideal S8x8192x1024 .f32 from m ((c : Thread nD τ).loc main_arg0)) (ix3 b s f) = ((Q b s f : ℝ) : EReal)
  k : ∀ b s f, (show FVec Ideal S8x8192x1024 .f32 from m ((c : Thread nD τ).loc main_arg1)) (ix3 b s f) = ((K b s f : ℝ) : EReal)
  w : ∀ b s f, (show FVec Ideal S8x8192x1024 .f32 from m ((c : Thread nD τ).loc main_arg2)) (ix3 b s f) = ((W b s f : ℝ) : EReal)
  l : lam (fun d => (show FVec Ideal ⟨1, ![64]⟩ .f32 from m ((c : Thread nD τ).loc main_arg3)) (ix1 d))
      (fun d => (show FVec Ideal ⟨1, ![64]⟩ .f32 from m ((c : Thread nD τ).loc main_arg4)) (ix1 d))
      (fun d => (show FVec Ideal ⟨1, ![64]⟩ .f32 from m ((c : Thread nD τ).loc main_arg5)) (ix1 d))
      (fun d => (show FVec Ideal ⟨1, ![64]⟩ .f32 from m ((c : Thread nD τ).loc main_arg6)) (ix1 d)) = ((Lr : ℝ) : EReal)

/-- The precondition gives real numbers. -/
theorem reals_of (h : @Cert.Pre_finite.fn Cert.Pre_finite.facts Ideal _ (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = fun _ => 1#1) :
    ∃ (Q K W : Fin 8 → Fin 8192 → Fin 1024 → ℝ) (Lr : ℝ), Reals m c Q K W Lr := by
  obtain ⟨h0, h1, h2, h3, h4, h5, h6⟩ := Cert.Pre_finite.reals _ _ _ _ _ _ _ _ h
  choose Q hQ using h0
  choose K hK using h1
  choose W hW using h2
  choose a ha using h3
  choose b hb using h4
  choose a' ha' using h5
  choose b' hb' using h6
  refine ⟨fun b s f => Q (ix3 b s f), fun b s f => K (ix3 b s f), fun b s f => W (ix3 b s f),
    Real.exp (∑ d, a (ix1 d) * b (ix1 d)) - Real.exp (∑ d, a' (ix1 d) * b' (ix1 d)) + 11928905 / 33554432,
    fun b s f => hQ _, fun b s f => hK _, fun b s f => hW _, ?_⟩
  have e : ∀ (x y : FVec Ideal ⟨1, ![64]⟩ .f32) (u v : (⟨1, ![64]⟩ : Shape).Idx → ℝ) (hx : ∀ i, x i = (u i : EReal)) (hy : ∀ i, y i = (v i : EReal)),
      Ideal.exp (∑ d : Fin 64, x (ix1 d) * y (ix1 d)) = ((Real.exp (∑ d : Fin 64, u (ix1 d) * v (ix1 d)) : ℝ) : EReal) := fun x y u v hx hy => by
    simp only [hx, hy, ← EReal.coe_mul]
    rw [← coe_sum, Ideal.exp_coe]
  unfold lam
  rw [lit_lam, EReal.coe_add, EReal.coe_sub]
  congr 2
  · exact e _ _ a b ha hb
  · exact e _ _ a' b' ha' hb'

variable {m c} {Q K W : Fin 8 → Fin 8192 → Fin 1024 → ℝ} {Lr : ℝ} (H : Reals m c Q K W Lr) (t : Fin cfg0.N)

include H

theorem blocks : Blocks (grid0.coords t) (iblk m c 0 t) (iblk m c 1 t) (iblk m c 2 t) (iblk m c 3 t) (iblk m c 4 t) (iblk m c 5 t) (iblk m c 6 t)
    (qB (grid0.coords t) Q) (kB (grid0.coords t) K) (vB (grid0.coords t) W) where
  h0 := (blk0 m c t _).trans (slopes_at m c _)
  h1 := fun d p => by
    refine (blk1 m c t d p).trans ((qt_at m c _ _ _ p).trans ?_)
    rw [H.q, ← EReal.coe_mul]; rfl
  h2 := fun s d => (blk2 m c t s d).trans ((k_at m c _ _ _).trans (H.k _ _ _))
  h3 := fun T e r => (blk3 m c t T e r).trans ((vt_at m c _ _ _ _).trans (H.w _ _ _))
  h4 := fun k p => (blk4 m c t k p).trans (pq_at m c _ _ _)
  h5 := fun g r k => (blk5 m c t g r k).trans (pk_at m c _ _ _ _)
  h6 := fun r p => (blk6 m c t r p).trans (absd_at m c _ _)

theorem entry (p : Fin 512) (e : Fin 128) :
    result (F := Ideal) (grid0.coords t) (slope (grid0.coords t) (iblk m c 0 t)) (iblk m c 3 t) (iblk m c 7 t) (iblk m c 8 t)
        (stAt (grid0.coords t) (slope (grid0.coords t) (iblk m c 0 t)) (iblk m c 2 t) (iblk m c 3 t) (iblk m c 5 t) (q0 (iblk m c 1 t) (iblk m c 4 t)) (q1 (iblk m c 1 t) (iblk m c 4 t))
          (start (grid0.coords t) (iblk m c 0 t) (iblk m c 1 t) (iblk m c 2 t) (iblk m c 3 t) (iblk m c 4 t) (iblk m c 5 t) (iblk m c 6 t)) k0_t1_loop.trips) (ix3 0 p e)
      = tail (fun k => ((mixed Q K W Lr (bb (grid0.coords t)) (hh (grid0.coords t)) (gpos (tt (grid0.coords t)) p) k : ℝ) : EReal))
        ((show FVec Ideal ⟨1, ![128]⟩ .f32 from m ((c : Thread nD τ).loc main_arg7)) (ix1 e)) e := by
  have B := blocks H t
  generalize hs : stAt (grid0.coords t) (slope (grid0.coords t) (iblk m c 0 t)) (iblk m c 2 t) (iblk m c 3 t) (iblk m c 5 t) (q0 (iblk m c 1 t) (iblk m c 4 t)) (q1 (iblk m c 1 t) (iblk m c 4 t))
          (start (F := Ideal) (grid0.coords t) (iblk m c 0 t) (iblk m c 1 t) (iblk m c 2 t) (iblk m c 3 t) (iblk m c 4 t) (iblk m c 5 t) (iblk m c 6 t)) k0_t1_loop.trips = s
  rw [result_eq, end_at]
  have hw : ∀ r d, (View.ld (iblk m c 7 t) (Rect.unit (s := S4x64) ![0, 0] S4x64.size inb_S4x64_S4x64_0_0) : Vec Ideal S4x64 .f32) (ix2 r d)
      = (show FVec Ideal S4x64 .f32 from V m c main_v4) (ix2 r d) := fun r d => by
    refine Eq.trans ?_ (blk7 m c t r d)
    pointwise
  have hg : (View.ld (iblk m c 8 t) (Rect.unit (s := S128x1) ![0, 0] S128x1.size inb_S128x1_S128x1_0_0) : Vec Ideal S128x1 .f32) (ix2 e 0)
      = (show FVec Ideal ⟨1, ![128]⟩ .f32 from m ((c : Thread nD τ).loc main_arg7)) (ix1 e) := by
    refine Eq.trans ?_ ((blk8 m c t e).trans (g_at m c e))
    pointwise
  rw [hg]
  have hl : lam (fun d => (View.ld (iblk m c 7 t) (Rect.unit (s := S4x64) ![0, 0] S4x64.size inb_S4x64_S4x64_0_0) : Vec Ideal S4x64 .f32) (ix2 0 d))
      (fun d => (View.ld (iblk m c 7 t) (Rect.unit (s := S4x64) ![0, 0] S4x64.size inb_S4x64_S4x64_0_0) : Vec Ideal S4x64 .f32) (ix2 1 d))
      (fun d => (View.ld (iblk m c 7 t) (Rect.unit (s := S4x64) ![0, 0] S4x64.size inb_S4x64_S4x64_0_0) : Vec Ideal S4x64 .f32) (ix2 2 d))
      (fun d => (View.ld (iblk m c 7 t) (Rect.unit (s := S4x64) ![0, 0] S4x64.size inb_S4x64_S4x64_0_0) : Vec Ideal S4x64 .f32) (ix2 3 d)) = ((Lr : ℝ) : EReal) := by
    refine Eq.trans ?_ H.l
    congr 1 <;> funext d <;> rw [hw]
    · exact lam0_at m c d
    · exact lam1_at m c d
    · exact lam2_at m c d
    · exact lam3_at m c d
  rw [hl]
  congr 1
  funext k
  obtain ⟨e0, e1⟩ := quotients B s hs.symm k p
  rw [e0, e1, quot_of _ Q K W _ 0 (dq0_of _ Q K), quot_of _ Q K W _ 1 (dq1_of _ Q K), ← EReal.coe_mul, ← EReal.coe_sub]
  congr 1
  unfold mixed
  rw [Finset.mul_sum, ← Finset.sum_sub_distrib]
  exact Finset.sum_congr rfl fun s _ => by ring

/-- The result array after the run is the reference's function of the argument arrays. -/
theorem final : (dats m 0 c).arrAt 9 (cfgs 0).N
    = Cert.AttnRefIdeal.Read.val_main_v73 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  frame_out
  idx_vars y
  obtain rfl : y0 = 0 := Subsingleton.elim _ _
  have hR : ((cfg0.win 9).blk t).view.emb (ix3 0 y1 y2)
      = (ix3 (bb (grid0.coords t)) (gpos (tt (grid0.coords t)) y1) (vfeat (hh (grid0.coords t)) y2) : S8x8192x1024.Idx) := by
    blk_ext [idx t, gpos, vfeat]
  rw [hR]
  refine (entry H t y1 y2).trans (Cert.AttnRefIdeal.Mix.out_at _ _ _ _ _ _ _ _ H.q H.k H.w H.l _ _ _ _).symm

end Array

end Cert.AttnIdeal.Mix

end
-- ==== Proof.lean ====
/- The claims of this certificate, each from the run of its program. -/
module

public import proofs.«01_k».proof.Defs
public import proofs.«01_k».proof.Proof.Gen.Attn
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Loops
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvIdeal.Value
public import proofs.«01_k».proof.Proof.Gen.QkvRefIdeal.Run
public import proofs.«01_k».proof.Proof.Gen.QkvRefIdeal.Read
public import proofs.«01_k».proof.Proof.FfnValue
public import proofs.«01_k».proof.Proof.QkvValue
public import proofs.«01_k».proof.Proof.AttnRun
public import proofs.«01_k».proof.Proof.AttnIdealRun
public import proofs.«01_k».proof.Proof.AttnValue
public import Idealize.ShloMosaic.Adequacy
public import Idealize.ShloMosaic.Init

@[expose] public section

set_option maxRecDepth 16384

noncomputable section

namespace Cert.Proof

open Idealize.ShloMosaic Idealize.SL.Sem

/-- The feed-forward call and its reference leave equal results. -/
theorem algebraic_ffn : Cert.algebraic_FfnIdeal_FfnRefIdeal := by
  pair_intro
  · run_from Cert.FfnIdeal.Gen.run_main m g
  · run_from Cert.FfnRefIdeal.Value.run m' g'
    rw [Cert.FfnIdeal.Mix.final m c, Cert.FfnRefIdeal.Read.val_main_v47_eq]
    obtain ⟨h0, h1, h2, h3, h4, h5, h6, h7, h8⟩ := hagree c
    rw [h0, h1, h2, h3, h4, h5, h6, h7, h8]

/-- The qkv projection and its reference leave equal results. -/
theorem algebraic_qkv : Cert.algebraic_QkvIdeal_QkvRefIdeal := by
  pair_intro
  · run_from Cert.QkvIdeal.Gen.run_main m g
  · run_from Cert.QkvRefIdeal.Value.run m' g'
    · rw [Cert.QkvIdeal.Mix.final_q m c, Cert.QkvRefIdeal.Read.val_main_v21_eq]
    · rw [Cert.QkvIdeal.Mix.final_k m c, Cert.QkvRefIdeal.Read.val_main_v22_eq]
    · rw [Cert.QkvIdeal.Mix.final_v m c, Cert.QkvRefIdeal.Read.val_main_v25_eq]

/-- The attention call and its reference leave equal results where the arrays are finite. -/
theorem algebraic_attn : @Cert.algebraic_AttnIdeal_AttnRefIdeal_pre_finite Cert.AttnIdeal.Gen.facts Cert.AttnRefIdeal.Gen.facts Cert.Pre_finite.facts := by
  pair_intro
  · run_from Cert.AttnIdeal.Mix.run_main m g & Cert.AttnIdeal.Gen.frame_of m g (Cert.AttnIdeal.Mix.dats m) (Cert.AttnIdeal.Mix.A_eq m)
      (Cert.AttnIdeal.Mix.run_main m g)
  · run_from Cert.AttnRefIdeal.Value.run m' g'
    obtain ⟨Q, K, W, Lr, H⟩ := Cert.AttnIdeal.Mix.reals_of m c (hpre c)
    rw [Cert.AttnIdeal.Mix.final H, Cert.AttnRefIdeal.Read.val_main_v73_eq]
    obtain ⟨h0, h1, h2, h3, h4, h5, h6, h7⟩ := hagree c
    rw [h0, h1, h2, h3, h4, h5, h6, h7]

theorem claim : Cert.Claim := ⟨Cert.Attn.Gen.facts, Cert.AttnIdeal.Gen.facts, Cert.AttnRefIdeal.Gen.facts,
  Cert.Ffn.Gen.facts, Cert.FfnIdeal.Gen.facts, Cert.FfnRefIdeal.Gen.facts,
  Cert.Qkv.Gen.facts, Cert.QkvIdeal.Gen.facts, Cert.QkvRefIdeal.Gen.facts, Cert.Pre_finite.facts,
  fun m g _ => Cert.Attn.Mix.frame (F := Bits) m g,
  fun m g _ => Cert.AttnIdeal.Mix.frame (F := Ideal) m g, fun m g _ => Cert.AttnIdeal.Mix.frame (F := Ideal) m g,
  fun m g _ => (θ_run Cert.AttnRefIdeal.defs _ _).mono
    (fun r h => ⟨fun c => (h c).2, sem_eq_zero_of_no_sems (by decide) r.2⟩) (Cert.AttnRefIdeal.Value.run m g),
  fun m g _ => (θ_run Cert.AttnRefIdeal.defs _ _).mono
    (fun r h => ⟨fun c => (h c).2, sem_eq_zero_of_no_sems (by decide) r.2⟩) (Cert.AttnRefIdeal.Value.run m g),
  fun m g _ => Cert.Ffn.Gen.frame m g, fun m g _ => Cert.FfnIdeal.Gen.frame m g,
  fun m g _ => (θ_run Cert.FfnRefIdeal.defs _ _).mono
    (fun r h => ⟨fun c => (h c).2, sem_eq_zero_of_no_sems (by decide) r.2⟩) (Cert.FfnRefIdeal.Value.run m g),
  fun m g _ => Cert.Qkv.Gen.frame m g, fun m g _ => Cert.QkvIdeal.Gen.frame m g,
  fun m g _ => (θ_run Cert.QkvRefIdeal.defs _ _).mono
    (fun r h => ⟨fun c => (h c).2.2.2, sem_eq_zero_of_no_sems (by decide) r.2⟩) (Cert.QkvRefIdeal.Value.run m g),
  trivial, algebraic_attn, trivial, algebraic_ffn, trivial, algebraic_qkv⟩

end Cert.Proof

end
